-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S3x128x512 : Shape := ⟨3, ![3, 128, 512]⟩
abbrev S3x32x512 : Shape := ⟨3, ![3, 32, 512]⟩
abbrev S12 : Shape := ⟨1, ![12]⟩
abbrev S3 : Shape := ⟨1, ![3]⟩
abbrev S_ : Shape := ⟨0, ![]⟩
abbrev S128x256 : Shape := ⟨2, ![128, 256]⟩
abbrev S128x512 : Shape := ⟨2, ![128, 512]⟩
abbrev S1 : Shape := ⟨1, ![1]⟩
abbrev S1x128x512 : Shape := ⟨3, ![1, 128, 512]⟩
abbrev S32x512 : Shape := ⟨2, ![32, 512]⟩
abbrev S1x32x512 : Shape := ⟨3, ![1, 32, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S512x512, .f32⟩
  | .local _ .vmem, ⟨4, _⟩ => ⟨S3x128x512, .f32⟩
  | .local _ .vmem, ⟨5, _⟩ => ⟨S3x32x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v19 : BitVec 32 := Scalar.xori v2 c1_i32_7
  let c1_i32_9 : BitVec 32 := 1#32
  let v20 : BitVec 32 := Scalar.muli v19 c1_i32_9
  let v21 : BitVec 32 := Scalar.addi c0_i32_10 v20
  v21.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_11 : BitVec 32 := 2#32
  let v22 : BitVec 32 := Scalar.xori v2 c2_i32_11
  let c1_i32_13 : BitVec 32 := 1#32
  let v23 : BitVec 32 := Scalar.muli v22 c1_i32_13
  let v24 : BitVec 32 := Scalar.addi c0_i32_14 v23
  v24.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_15 : BitVec 32 := 3#32
  let v25 : BitVec 32 := Scalar.xori v2 c3_i32_15
  let c1_i32_17 : BitVec 32 := 1#32
  let v26 : BitVec 32 := Scalar.muli v25 c1_i32_17
  let v27 : BitVec 32 := Scalar.addi c0_i32_18 v26
  v27.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v28 : BitVec 32 := Scalar.xori v2 c4_i32
  let c1_i32_20 : BitVec 32 := 1#32
  let v29 : BitVec 32 := Scalar.muli v28 c1_i32_20
  let v30 : BitVec 32 := Scalar.addi c0_i32_21 v29
  v30.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v31 : BitVec 32 := Scalar.xori v2 c8_i32
  let c1_i32_23 : BitVec 32 := 1#32
  let v32 : BitVec 32 := Scalar.muli v31 c1_i32_23
  let v33 : BitVec 32 := Scalar.addi c0_i32_24 v32
  v33.toNat
def k0_dev6 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v34 : BitVec 32 := Scalar.xori v2 c12_i32
  let c1_i32_26 : BitVec 32 := 1#32
  let v35 : BitVec 32 := Scalar.muli v34 c1_i32_26
  let v36 : BitVec 32 := Scalar.addi c0_i32_27 v35
  v36.toNat
def k0_off1 (d0 : Dev nD) (c3_i32_28 : BitVec 32) : Fin 2 → Nat :=
  let c128_i32_29 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c2_i32 : BitVec 32 := 2#32
  let c1_i32_1 : BitVec 32 := 1#32
  let v5 : BitVec 32 := Scalar.shrsi v2 c1_i32_1
  let c1_i32_2 : BitVec 32 := 1#32
  let v6 : BitVec 32 := Scalar.andi v5 c1_i32_2
  let v7 : BitVec 32 := Scalar.muli c2_i32 v6
  let v8 : BitVec 32 := Scalar.addi v4 v7
  let v37 : BitVec 32 := Scalar.xori v8 c3_i32_28
  let v38 : BitVec 32 := Scalar.muli c128_i32_29 v37
  let v39 : Index := Scalar.indexCast v38
  let c0 : Index := 0#32
  ![v39.toNat, 0]
def k0_off2 (d0 : Dev nD) (c3_i32_28 : BitVec 32) : Fin 2 → Nat :=
  let c128_i32_32 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c2_i32 : BitVec 32 := 2#32
  let c1_i32_1 : BitVec 32 := 1#32
  let v5 : BitVec 32 := Scalar.shrsi v2 c1_i32_1
  let c1_i32_2 : BitVec 32 := 1#32
  let v6 : BitVec 32 := Scalar.andi v5 c1_i32_2
  let v7 : BitVec 32 := Scalar.muli c2_i32 v6
  let v8 : BitVec 32 := Scalar.addi v4 v7
  let v37 : BitVec 32 := Scalar.xori v8 c3_i32_28
  let v45 : BitVec 32 := Scalar.muli c128_i32_32 v37
  let v46 : Index := Scalar.indexCast v45
  let c0_33 : Index := 0#32
  ![v46.toNat, 0]
def k0_off3 (d0 : Dev nD) (c3_i32_35 : BitVec 32) : Fin 2 → Nat :=
  let c32_i32_38 : BitVec 32 := 32#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3 : BitVec 32 := 2#32
  let v9 : BitVec 32 := Scalar.shrsi v2 c2_i32_3
  let c1_i32_4 : BitVec 32 := 1#32
  let v10 : BitVec 32 := Scalar.andi v9 c1_i32_4
  let c2_i32_6 : BitVec 32 := 2#32
  let c3_i32 : BitVec 32 := 3#32
  let v11 : BitVec 32 := Scalar.shrsi v2 c3_i32
  let c1_i32_5 : BitVec 32 := 1#32
  let v12 : BitVec 32 := Scalar.andi v11 c1_i32_5
  let v13 : BitVec 32 := Scalar.muli c2_i32_6 v12
  let v14 : BitVec 32 := Scalar.addi v10 v13
  let v51 : BitVec 32 := Scalar.xori v14 c3_i32_35
  let v55 : BitVec 32 := Scalar.muli c32_i32_38 v51
  let c0_i32_45 : BitVec 32 := 0#32
  ![v55.toNat, 0]
def k0_off4 (d0 : Dev nD) (c3_i32_28 : BitVec 32) (c3_i32_35 : BitVec 32) : Fin 2 → Nat :=
  let c128_i32_36 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c2_i32 : BitVec 32 := 2#32
  let c1_i32_1 : BitVec 32 := 1#32
  let v5 : BitVec 32 := Scalar.shrsi v2 c1_i32_1
  let c1_i32_2 : BitVec 32 := 1#32
  let v6 : BitVec 32 := Scalar.andi v5 c1_i32_2
  let v7 : BitVec 32 := Scalar.muli c2_i32 v6
  let v8 : BitVec 32 := Scalar.addi v4 v7
  let v37 : BitVec 32 := Scalar.xori v8 c3_i32_28
  let v52 : BitVec 32 := Scalar.muli c128_i32_36 v37
  let c32_i32_37 : BitVec 32 := 32#32
  let c2_i32_3 : BitVec 32 := 2#32
  let v9 : BitVec 32 := Scalar.shrsi v2 c2_i32_3
  let c1_i32_4 : BitVec 32 := 1#32
  let v10 : BitVec 32 := Scalar.andi v9 c1_i32_4
  let c2_i32_6 : BitVec 32 := 2#32
  let c3_i32 : BitVec 32 := 3#32
  let v11 : BitVec 32 := Scalar.shrsi v2 c3_i32
  let c1_i32_5 : BitVec 32 := 1#32
  let v12 : BitVec 32 := Scalar.andi v11 c1_i32_5
  let v13 : BitVec 32 := Scalar.muli c2_i32_6 v12
  let v14 : BitVec 32 := Scalar.addi v10 v13
  let v51 : BitVec 32 := Scalar.xori v14 c3_i32_35
  let v53 : BitVec 32 := Scalar.muli c32_i32_37 v51
  let v54 : BitVec 32 := Scalar.addi v52 v53
  let c0_i32_46 : BitVec 32 := 0#32
  ![v54.toNat, 0]
def k0_dev7 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_34 : BitVec 32 := 3#32
  let v50 : BitVec 32 := Scalar.xori v2 c3_i32_34
  let c1_i32_41 : BitVec 32 := 1#32
  let v56 : BitVec 32 := Scalar.muli v50 c1_i32_41
  let v57 : BitVec 32 := Scalar.addi c0_i32_42 v56
  v57.toNat
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_34 : BitVec 32 := 3#32
  let v50 : BitVec 32 := Scalar.xori v2 c3_i32_34
  let c1_i32_53 : BitVec 32 := 1#32
  let v71 : BitVec 32 := Scalar.muli v50 c1_i32_53
  let v72 : BitVec 32 := Scalar.addi c0_i32_54 v71
  v72.toNat
def k0_dev9 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_34 : BitVec 32 := 3#32
  let v50 : BitVec 32 := Scalar.xori v2 c3_i32_34
  let c1_i32_65 : BitVec 32 := 1#32
  let v86 : BitVec 32 := Scalar.muli v50 c1_i32_65
  let v87 : BitVec 32 := Scalar.addi c0_i32_66 v86
  v87.toNat
def k0_dev10 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_34 : BitVec 32 := 3#32
  let v50 : BitVec 32 := Scalar.xori v2 c3_i32_34
  let c1_i32_78 : BitVec 32 := 1#32
  let v101 : BitVec 32 := Scalar.muli v50 c1_i32_78
  let v102 : BitVec 32 := Scalar.addi c0_i32_79 v101
  v102.toNat
def k0_dev11 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_92 : BitVec 32 := 2#32
  let v124 : BitVec 32 := Scalar.xori v2 c2_i32_92
  let c1_i32_99 : BitVec 32 := 1#32
  let v130 : BitVec 32 := Scalar.muli v124 c1_i32_99
  let v131 : BitVec 32 := Scalar.addi c0_i32_100 v130
  v131.toNat
def k0_dev12 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_92 : BitVec 32 := 2#32
  let v124 : BitVec 32 := Scalar.xori v2 c2_i32_92
  let c1_i32_112 : BitVec 32 := 1#32
  let v145 : BitVec 32 := Scalar.muli v124 c1_i32_112
  let v146 : BitVec 32 := Scalar.addi c0_i32_113 v145
  v146.toNat
def k0_dev13 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_92 : BitVec 32 := 2#32
  let v124 : BitVec 32 := Scalar.xori v2 c2_i32_92
  let c1_i32_124 : BitVec 32 := 1#32
  let v160 : BitVec 32 := Scalar.muli v124 c1_i32_124
  let v161 : BitVec 32 := Scalar.addi c0_i32_125 v160
  v161.toNat
def k0_dev14 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_92 : BitVec 32 := 2#32
  let v124 : BitVec 32 := Scalar.xori v2 c2_i32_92
  let c1_i32_137 : BitVec 32 := 1#32
  let v175 : BitVec 32 := Scalar.muli v124 c1_i32_137
  let v176 : BitVec 32 := Scalar.addi c0_i32_138 v175
  v176.toNat
def k0_dev15 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_151 : BitVec 32 := 1#32
  let v198 : BitVec 32 := Scalar.xori v2 c1_i32_151
  let c1_i32_159 : BitVec 32 := 1#32
  let v204 : BitVec 32 := Scalar.muli v198 c1_i32_159
  let v205 : BitVec 32 := Scalar.addi c0_i32_160 v204
  v205.toNat
def k0_dev16 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_151 : BitVec 32 := 1#32
  let v198 : BitVec 32 := Scalar.xori v2 c1_i32_151
  let c1_i32_172 : BitVec 32 := 1#32
  let v219 : BitVec 32 := Scalar.muli v198 c1_i32_172
  let v220 : BitVec 32 := Scalar.addi c0_i32_173 v219
  v220.toNat
def k0_dev17 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_151 : BitVec 32 := 1#32
  let v198 : BitVec 32 := Scalar.xori v2 c1_i32_151
  let c1_i32_185 : BitVec 32 := 1#32
  let v234 : BitVec 32 := Scalar.muli v198 c1_i32_185
  let v235 : BitVec 32 := Scalar.addi c0_i32_186 v234
  v235.toNat
def k0_dev18 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_151 : BitVec 32 := 1#32
  let v198 : BitVec 32 := Scalar.xori v2 c1_i32_151
  let c1_i32_198 : BitVec 32 := 1#32
  let v249 : BitVec 32 := Scalar.muli v198 c1_i32_198
  let v250 : BitVec 32 := Scalar.addi c0_i32_199 v249
  v250.toNat
def k0_off5 (d0 : Dev nD) : Fin 2 → Nat :=
  let c128_i32 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c2_i32 : BitVec 32 := 2#32
  let c1_i32_1 : BitVec 32 := 1#32
  let v5 : BitVec 32 := Scalar.shrsi v2 c1_i32_1
  let c1_i32_2 : BitVec 32 := 1#32
  let v6 : BitVec 32 := Scalar.andi v5 c1_i32_2
  let v7 : BitVec 32 := Scalar.muli c2_i32 v6
  let v8 : BitVec 32 := Scalar.addi v4 v7
  let v15 : BitVec 32 := Scalar.muli c128_i32 v8
  let v259 : Index := Scalar.indexCast v15
  let c0_204 : Index := 0#32
  ![v259.toNat, 0]
def k0_off6 (d0 : Dev nD) : Fin 2 → Nat :=
  let c128_i32 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c2_i32 : BitVec 32 := 2#32
  let c1_i32_1 : BitVec 32 := 1#32
  let v5 : BitVec 32 := Scalar.shrsi v2 c1_i32_1
  let c1_i32_2 : BitVec 32 := 1#32
  let v6 : BitVec 32 := Scalar.andi v5 c1_i32_2
  let v7 : BitVec 32 := Scalar.muli c2_i32 v6
  let v8 : BitVec 32 := Scalar.addi v4 v7
  let v15 : BitVec 32 := Scalar.muli c128_i32 v8
  let v265 : Index := Scalar.indexCast v15
  let c0_208 : Index := 0#32
  ![v265.toNat, 0]
def k0_off7 (d0 : Dev nD) (c3_i32_209 : BitVec 32) : Fin 2 → Nat :=
  let c128_i32 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c2_i32 : BitVec 32 := 2#32
  let c1_i32_1 : BitVec 32 := 1#32
  let v5 : BitVec 32 := Scalar.shrsi v2 c1_i32_1
  let c1_i32_2 : BitVec 32 := 1#32
  let v6 : BitVec 32 := Scalar.andi v5 c1_i32_2
  let v7 : BitVec 32 := Scalar.muli c2_i32 v6
  let v8 : BitVec 32 := Scalar.addi v4 v7
  let v15 : BitVec 32 := Scalar.muli c128_i32 v8
  let c32_i32_210 : BitVec 32 := 32#32
  let c2_i32_3 : BitVec 32 := 2#32
  let v9 : BitVec 32 := Scalar.shrsi v2 c2_i32_3
  let c1_i32_4 : BitVec 32 := 1#32
  let v10 : BitVec 32 := Scalar.andi v9 c1_i32_4
  let c2_i32_6 : BitVec 32 := 2#32
  let c3_i32 : BitVec 32 := 3#32
  let v11 : BitVec 32 := Scalar.shrsi v2 c3_i32
  let c1_i32_5 : BitVec 32 := 1#32
  let v12 : BitVec 32 := Scalar.andi v11 c1_i32_5
  let v13 : BitVec 32 := Scalar.muli c2_i32_6 v12
  let v14 : BitVec 32 := Scalar.addi v10 v13
  let v269 : BitVec 32 := Scalar.xori v14 c3_i32_209
  let v270 : BitVec 32 := Scalar.muli c32_i32_210 v269
  let v271 : BitVec 32 := Scalar.addi v15 v270
  let v296 : Index := Scalar.indexCast v271
  let c0_238 : Index := 0#32
  ![v296.toNat, 0]
def k0_off8 (d0 : Dev nD) (c3_i32_209 : BitVec 32) : Fin 3 → Nat :=
  let c0_239 : Index := 0#32
  let c32_i32_210 : BitVec 32 := 32#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3 : BitVec 32 := 2#32
  let v9 : BitVec 32 := Scalar.shrsi v2 c2_i32_3
  let c1_i32_4 : BitVec 32 := 1#32
  let v10 : BitVec 32 := Scalar.andi v9 c1_i32_4
  let c2_i32_6 : BitVec 32 := 2#32
  let c3_i32 : BitVec 32 := 3#32
  let v11 : BitVec 32 := Scalar.shrsi v2 c3_i32
  let c1_i32_5 : BitVec 32 := 1#32
  let v12 : BitVec 32 := Scalar.andi v11 c1_i32_5
  let v13 : BitVec 32 := Scalar.muli c2_i32_6 v12
  let v14 : BitVec 32 := Scalar.addi v10 v13
  let v269 : BitVec 32 := Scalar.xori v14 c3_i32_209
  let v270 : BitVec 32 := Scalar.muli c32_i32_210 v269
  let v298 : Index := Scalar.indexCast v270
  let c0_240 : Index := 0#32
  ![0, v298.toNat, 0]
def k0_off9 (d0 : Dev nD) (c3_i32_209 : BitVec 32) : Fin 3 → Nat :=
  let c1 : Index := 1#32
  let c32_i32_210 : BitVec 32 := 32#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3 : BitVec 32 := 2#32
  let v9 : BitVec 32 := Scalar.shrsi v2 c2_i32_3
  let c1_i32_4 : BitVec 32 := 1#32
  let v10 : BitVec 32 := Scalar.andi v9 c1_i32_4
  let c2_i32_6 : BitVec 32 := 2#32
  let c3_i32 : BitVec 32 := 3#32
  let v11 : BitVec 32 := Scalar.shrsi v2 c3_i32
  let c1_i32_5 : BitVec 32 := 1#32
  let v12 : BitVec 32 := Scalar.andi v11 c1_i32_5
  let v13 : BitVec 32 := Scalar.muli c2_i32_6 v12
  let v14 : BitVec 32 := Scalar.addi v10 v13
  let v269 : BitVec 32 := Scalar.xori v14 c3_i32_209
  let v270 : BitVec 32 := Scalar.muli c32_i32_210 v269
  let v302 : Index := Scalar.indexCast v270
  let c0_241 : Index := 0#32
  ![1, v302.toNat, 0]
def k0_off10 (d0 : Dev nD) (c3_i32_209 : BitVec 32) : Fin 3 → Nat :=
  let c2 : Index := 2#32
  let c32_i32_210 : BitVec 32 := 32#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3 : BitVec 32 := 2#32
  let v9 : BitVec 32 := Scalar.shrsi v2 c2_i32_3
  let c1_i32_4 : BitVec 32 := 1#32
  let v10 : BitVec 32 := Scalar.andi v9 c1_i32_4
  let c2_i32_6 : BitVec 32 := 2#32
  let c3_i32 : BitVec 32 := 3#32
  let v11 : BitVec 32 := Scalar.shrsi v2 c3_i32
  let c1_i32_5 : BitVec 32 := 1#32
  let v12 : BitVec 32 := Scalar.andi v11 c1_i32_5
  let v13 : BitVec 32 := Scalar.muli c2_i32_6 v12
  let v14 : BitVec 32 := Scalar.addi v10 v13
  let v269 : BitVec 32 := Scalar.xori v14 c3_i32_209
  let v270 : BitVec 32 := Scalar.muli c32_i32_210 v269
  let v306 : Index := Scalar.indexCast v270
  let c0_242 : Index := 0#32
  ![2, v306.toNat, 0]
def k0_off11 (d0 : Dev nD) (c3_i32_209 : BitVec 32) : Fin 2 → Nat :=
  let c128_i32 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c2_i32 : BitVec 32 := 2#32
  let c1_i32_1 : BitVec 32 := 1#32
  let v5 : BitVec 32 := Scalar.shrsi v2 c1_i32_1
  let c1_i32_2 : BitVec 32 := 1#32
  let v6 : BitVec 32 := Scalar.andi v5 c1_i32_2
  let v7 : BitVec 32 := Scalar.muli c2_i32 v6
  let v8 : BitVec 32 := Scalar.addi v4 v7
  let v15 : BitVec 32 := Scalar.muli c128_i32 v8
  let c32_i32_210 : BitVec 32 := 32#32
  let c2_i32_3 : BitVec 32 := 2#32
  let v9 : BitVec 32 := Scalar.shrsi v2 c2_i32_3
  let c1_i32_4 : BitVec 32 := 1#32
  let v10 : BitVec 32 := Scalar.andi v9 c1_i32_4
  let c2_i32_6 : BitVec 32 := 2#32
  let c3_i32 : BitVec 32 := 3#32
  let v11 : BitVec 32 := Scalar.shrsi v2 c3_i32
  let c1_i32_5 : BitVec 32 := 1#32
  let v12 : BitVec 32 := Scalar.andi v11 c1_i32_5
  let v13 : BitVec 32 := Scalar.muli c2_i32_6 v12
  let v14 : BitVec 32 := Scalar.addi v10 v13
  let v269 : BitVec 32 := Scalar.xori v14 c3_i32_209
  let v270 : BitVec 32 := Scalar.muli c32_i32_210 v269
  let v271 : BitVec 32 := Scalar.addi v15 v270
  let c0_i32_252 : BitVec 32 := 0#32
  ![v271.toNat, 0]
def k0_dev19 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_244 : BitVec 32 := 12#32
  let v314 : BitVec 32 := Scalar.xori v2 c12_i32_244
  let c1_i32_248 : BitVec 32 := 1#32
  let v315 : BitVec 32 := Scalar.muli v314 c1_i32_248
  let v316 : BitVec 32 := Scalar.addi c0_i32_249 v315
  v316.toNat
def k0_dev20 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_290 : BitVec 32 := 8#32
  let v369 : BitVec 32 := Scalar.xori v2 c8_i32_290
  let c1_i32_294 : BitVec 32 := 1#32
  let v370 : BitVec 32 := Scalar.muli v369 c1_i32_294
  let v371 : BitVec 32 := Scalar.addi c0_i32_295 v370
  v371.toNat
def k0_dev21 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_336 : BitVec 32 := 4#32
  let v424 : BitVec 32 := Scalar.xori v2 c4_i32_336
  let c1_i32_340 : BitVec 32 := 1#32
  let v425 : BitVec 32 := Scalar.muli v424 c1_i32_340
  let v426 : BitVec 32 := Scalar.addi c0_i32_341 v425
  v426.toNat
def k0_off12 (d0 : Dev nD) : Fin 2 → Nat :=
  let c128_i32 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c2_i32 : BitVec 32 := 2#32
  let c1_i32_1 : BitVec 32 := 1#32
  let v5 : BitVec 32 := Scalar.shrsi v2 c1_i32_1
  let c1_i32_2 : BitVec 32 := 1#32
  let v6 : BitVec 32 := Scalar.andi v5 c1_i32_2
  let v7 : BitVec 32 := Scalar.muli c2_i32 v6
  let v8 : BitVec 32 := Scalar.addi v4 v7
  let v15 : BitVec 32 := Scalar.muli c128_i32 v8
  let c32_i32 : BitVec 32 := 32#32
  let c2_i32_3 : BitVec 32 := 2#32
  let v9 : BitVec 32 := Scalar.shrsi v2 c2_i32_3
  let c1_i32_4 : BitVec 32 := 1#32
  let v10 : BitVec 32 := Scalar.andi v9 c1_i32_4
  let c2_i32_6 : BitVec 32 := 2#32
  let c3_i32 : BitVec 32 := 3#32
  let v11 : BitVec 32 := Scalar.shrsi v2 c3_i32
  let c1_i32_5 : BitVec 32 := 1#32
  let v12 : BitVec 32 := Scalar.andi v11 c1_i32_5
  let v13 : BitVec 32 := Scalar.muli c2_i32_6 v12
  let v14 : BitVec 32 := Scalar.addi v10 v13
  let v16 : BitVec 32 := Scalar.muli c32_i32 v14
  let v17 : BitVec 32 := Scalar.addi v15 v16
  let v500 : Index := Scalar.indexCast v17
  let c0_406 : Index := 0#32
  ![v500.toNat, 0]
def k0_off13 (d0 : Dev nD) : Fin 2 → Nat :=
  let c128_i32 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 32 := Scalar.shrsi v2 c0_i32
  let c1_i32_0 : BitVec 32 := 1#32
  let v4 : BitVec 32 := Scalar.andi v3 c1_i32_0
  let c2_i32 : BitVec 32 := 2#32
  let c1_i32_1 : BitVec 32 := 1#32
  let v5 : BitVec 32 := Scalar.shrsi v2 c1_i32_1
  let c1_i32_2 : BitVec 32 := 1#32
  let v6 : BitVec 32 := Scalar.andi v5 c1_i32_2
  let v7 : BitVec 32 := Scalar.muli c2_i32 v6
  let v8 : BitVec 32 := Scalar.addi v4 v7
  let v15 : BitVec 32 := Scalar.muli c128_i32 v8
  let c32_i32 : BitVec 32 := 32#32
  let c2_i32_3 : BitVec 32 := 2#32
  let v9 : BitVec 32 := Scalar.shrsi v2 c2_i32_3
  let c1_i32_4 : BitVec 32 := 1#32
  let v10 : BitVec 32 := Scalar.andi v9 c1_i32_4
  let c2_i32_6 : BitVec 32 := 2#32
  let c3_i32 : BitVec 32 := 3#32
  let v11 : BitVec 32 := Scalar.shrsi v2 c3_i32
  let c1_i32_5 : BitVec 32 := 1#32
  let v12 : BitVec 32 := Scalar.andi v11 c1_i32_5
  let v13 : BitVec 32 := Scalar.muli c2_i32_6 v12
  let v14 : BitVec 32 := Scalar.addi v10 v13
  let v16 : BitVec 32 := Scalar.muli c32_i32 v14
  let v17 : BitVec 32 := Scalar.addi v15 v16
  let c0_i32_422 : BitVec 32 := 0#32
  ![v17.toNat, 0]
def k0_dev22 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_417 : BitVec 32 := 4#32
  let v513 : BitVec 32 := Scalar.xori v2 c4_i32_417
  let c1_i32_420 : BitVec 32 := 1#32
  let v514 : BitVec 32 := Scalar.muli v513 c1_i32_420
  let v515 : BitVec 32 := Scalar.addi c0_i32_421 v514
  v515.toNat
def k0_dev23 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_424 : BitVec 32 := 8#32
  let v522 : BitVec 32 := Scalar.xori v2 c8_i32_424
  let c1_i32_427 : BitVec 32 := 1#32
  let v523 : BitVec 32 := Scalar.muli v522 c1_i32_427
  let v524 : BitVec 32 := Scalar.addi c0_i32_428 v523
  v524.toNat
def k0_dev24 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_431 : BitVec 32 := 12#32
  let v531 : BitVec 32 := Scalar.xori v2 c12_i32_431
  let c1_i32_434 : BitVec 32 := 1#32
  let v532 : BitVec 32 := Scalar.muli v531 c1_i32_434
  let v533 : BitVec 32 := Scalar.addi c0_i32_435 v532
  v533.toNat
def k0_dev25 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_438 : BitVec 32 := 1#32
  let v540 : BitVec 32 := Scalar.xori v2 c1_i32_438
  let c1_i32_441 : BitVec 32 := 1#32
  let v541 : BitVec 32 := Scalar.muli v540 c1_i32_441
  let v542 : BitVec 32 := Scalar.addi c0_i32_442 v541
  v542.toNat
def k0_dev26 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_445 : BitVec 32 := 2#32
  let v549 : BitVec 32 := Scalar.xori v2 c2_i32_445
  let c1_i32_448 : BitVec 32 := 1#32
  let v550 : BitVec 32 := Scalar.muli v549 c1_i32_448
  let v551 : BitVec 32 := Scalar.addi c0_i32_449 v550
  v551.toNat
def k0_dev27 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_452 : BitVec 32 := 3#32
  let v558 : BitVec 32 := Scalar.xori v2 c3_i32_452
  let c1_i32_455 : BitVec 32 := 1#32
  let v559 : BitVec 32 := Scalar.muli v558 c1_i32_455
  let v560 : BitVec 32 := Scalar.addi c0_i32_456 v559
  v560.toNat
def k0_dev28 (d0 : Dev nD) : Nat :=
  let c0_i32_471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_467 : BitVec 32 := 1#32
  let v576 : BitVec 32 := Scalar.xori v2 c1_i32_467
  let c1_i32_470 : BitVec 32 := 1#32
  let v577 : BitVec 32 := Scalar.muli v576 c1_i32_470
  let v578 : BitVec 32 := Scalar.addi c0_i32_471 v577
  v578.toNat
def k0_dev29 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_474 : BitVec 32 := 2#32
  let v585 : BitVec 32 := Scalar.xori v2 c2_i32_474
  let c1_i32_477 : BitVec 32 := 1#32
  let v586 : BitVec 32 := Scalar.muli v585 c1_i32_477
  let v587 : BitVec 32 := Scalar.addi c0_i32_478 v586
  v587.toNat
def k0_dev30 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_481 : BitVec 32 := 3#32
  let v594 : BitVec 32 := Scalar.xori v2 c3_i32_481
  let c1_i32_484 : BitVec 32 := 1#32
  let v595 : BitVec 32 := Scalar.muli v594 c1_i32_484
  let v596 : BitVec 32 := Scalar.addi c0_i32_485 v595
  v596.toNat
def k0_dev31 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_496 : BitVec 32 := 1#32
  let v612 : BitVec 32 := Scalar.xori v2 c1_i32_496
  let c1_i32_499 : BitVec 32 := 1#32
  let v613 : BitVec 32 := Scalar.muli v612 c1_i32_499
  let v614 : BitVec 32 := Scalar.addi c0_i32_500 v613
  v614.toNat
def k0_dev32 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_503 : BitVec 32 := 2#32
  let v621 : BitVec 32 := Scalar.xori v2 c2_i32_503
  let c1_i32_506 : BitVec 32 := 1#32
  let v622 : BitVec 32 := Scalar.muli v621 c1_i32_506
  let v623 : BitVec 32 := Scalar.addi c0_i32_507 v622
  v623.toNat
def k0_dev33 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_510 : BitVec 32 := 3#32
  let v630 : BitVec 32 := Scalar.xori v2 c3_i32_510
  let c1_i32_513 : BitVec 32 := 1#32
  let v631 : BitVec 32 := Scalar.muli v630 c1_i32_513
  let v632 : BitVec 32 := Scalar.addi c0_i32_514 v631
  v632.toNat
def k0_dev34 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_525 : BitVec 32 := 1#32
  let v648 : BitVec 32 := Scalar.xori v2 c1_i32_525
  let c1_i32_528 : BitVec 32 := 1#32
  let v649 : BitVec 32 := Scalar.muli v648 c1_i32_528
  let v650 : BitVec 32 := Scalar.addi c0_i32_529 v649
  v650.toNat
def k0_dev35 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_532 : BitVec 32 := 2#32
  let v657 : BitVec 32 := Scalar.xori v2 c2_i32_532
  let c1_i32_535 : BitVec 32 := 1#32
  let v658 : BitVec 32 := Scalar.muli v657 c1_i32_535
  let v659 : BitVec 32 := Scalar.addi c0_i32_536 v658
  v659.toNat
def k0_dev36 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_539 : BitVec 32 := 3#32
  let v666 : BitVec 32 := Scalar.xori v2 c3_i32_539
  let c1_i32_542 : BitVec 32 := 1#32
  let v667 : BitVec 32 := Scalar.muli v666 c1_i32_542
  let v668 : BitVec 32 := Scalar.addi c0_i32_543 v667
  v668.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .hbm, ⟨2, _⟩ => ⟨S512x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/- The kernel's body as a short structured program.

   The printed body is a flat list of 300 memory operations.  Here the same list is written with the thirty
   transfers each device makes as a small index type, the blocks of the three phases as functions of their
   rotation, and the waits as passes over lists of transfers.  `body_eq` states that the printed body is this
   program, by definitional unfolding. -/
module

public import proofs.«01_k».proof.Proof.Gen.KernelIdeal.Skeleton
public import proofs.«01_k».proof.Proof.Gen.KernelIdeal.Launch
public import proofs.«01_k».proof.Proof.Gen.KernelIdeal.Points
public import Mathlib.Tactic.DeriveFintype

@[expose] public section

noncomputable section

namespace Cert.KernelIdeal.Gen

open Idealize.ShloMosaic Idealize.ShloMosaic.TcCoe Idealize.SL.Sem

/-- The transfers one device starts.  `A o oc`: rows of its partial product, to the peer at first-level distance
    `o + 1`, chunk rotation `oc`.  `B ob`: a partly summed chunk, to the peer at second-level distance `ob + 1`.
    `GB ob`: its finished chunk, the same peers.  `GA0 o`: its finished chunk to the first-level peers.  `GA o ob`:
    the finished chunk received by `GB ob`, passed on to the first-level peers. -/
inductive Tr where
  | A (o : Fin 3) (oc : Fin 4)
  | B (ob : Fin 3)
  | GB (ob : Fin 3)
  | GA0 (o : Fin 3)
  | GA (o ob : Fin 3)
  deriving DecidableEq, Fintype

/-- A loop counter's value as the program's word. -/
abbrev w (n : ℕ) : BitVec 32 := BitVec.ofNat 32 n

/-- The second loop counter of a rotation that starts at one. -/
abbrev up (i : Fin 3) : Fin 4 := ⟨1 + i.val, by omega⟩

/-- The six buffers of the kernel. -/
abbrev aM : Memref sig .tc .vmem S512x256 .f32 := Memref.whole cc0_stg0_0
abbrev bM : Memref sig .tc .vmem S256x512 .f32 := Memref.whole cc0_stg1_0
abbrev outM : Memref sig .tc .vmem S512x512 .f32 := Memref.whole cc0_stg2_0
abbrev accM : Memref sig .tc .vmem S512x512 .f32 := Memref.whole cc0_scratch0
abbrev rAM : Memref sig .tc .vmem S3x128x512 .f32 := Memref.whole cc0_scratch1
abbrev rBM : Memref sig .tc .vmem S3x32x512 .f32 := Memref.whole cc0_scratch2

theorem inb12 (i : Fin 12) : ∀ a, (![i.val] : Fin 1 → ℕ) a + S1.size a ≤ S12.size a := by revert i; decide
theorem inb3 (i : Fin 3) : ∀ a, (![i.val] : Fin 1 → ℕ) a + S1.size a ≤ S3.size a := by revert i; decide

/-- One semaphore of an array of twelve, and of three. -/
def sem12 (s : DmaSems sig S12) (i : Fin 12) : DmaSem sig :=
  ((s.slice (Rect.unit (s := S12) ![i.val] S1.size (inb12 i))).squeeze S_ squeezes_S1_S_).sem
def sem3 (s : DmaSems sig S3) (i : Fin 3) : DmaSem sig :=
  ((s.slice (Rect.unit (s := S3) ![i.val] S1.size (inb3 i))).squeeze S_ squeezes_S1_S_).sem

abbrev i12 (o : Fin 3) (oc : Fin 4) : Fin 12 := ⟨4 * o.val + oc.val, by omega⟩

/-- A transfer's completion semaphore on the sender, and on the receiver. -/
def sendSem : Tr → DmaSem sig
  | .A o oc => sem12 cc0_scratch3 (i12 o oc)
  | .B ob => sem3 cc0_scratch5 ob
  | .GB ob => sem3 cc0_scratch9 ob
  | .GA0 o => sem12 cc0_scratch7 (i12 o 0)
  | .GA o ob => sem12 cc0_scratch7 (i12 o (up ob))
def recvSem : Tr → DmaSem sig
  | .A o oc => sem12 cc0_scratch4 (i12 o oc)
  | .B ob => sem3 cc0_scratch6 ob
  | .GB ob => sem3 cc0_scratch10 ob
  | .GA0 o => sem12 cc0_scratch8 (i12 o 0)
  | .GA o ob => sem12 cc0_scratch8 (i12 o (up ob))

theorem inb_rA (o : Fin 3) : ∀ a, (![o.val, 0, 0] : Fin 3 → ℕ) a + S1x128x512.size a ≤ S3x128x512.size a := by
  revert o; decide
theorem inb_rB (o : Fin 3) : ∀ a, (![o.val, 0, 0] : Fin 3 → ℕ) a + S1x32x512.size a ≤ S3x32x512.size a := by
  revert o; decide

/-- The rows a transfer reads on the sender. -/
def srcM (d : Dev nD) : Tr → Memref sig .tc .vmem S32x512 .f32
  | .A o oc => accM.slice (Rect.unit (s := S512x512) (k0_off4 d (w (1 + o.val)) (w oc.val)) S32x512.size (k0_off4_inb d o oc)) (fun _ => rfl)
  | .B ob => accM.slice (Rect.unit (s := S512x512) (k0_off11 d (w (1 + ob.val))) S32x512.size (k0_off11_inb d ob)) (fun _ => rfl)
  | .GB _ => outM.slice (Rect.unit (s := S512x512) (k0_off13 d) S32x512.size (k0_off13_inb d)) (fun _ => rfl)
  | .GA0 _ => outM.slice (Rect.unit (s := S512x512) (k0_off13 d) S32x512.size (k0_off13_inb d)) (fun _ => rfl)
  | .GA _ ob => outM.slice (Rect.unit (s := S512x512) (k0_off11 d (w (1 + ob.val))) S32x512.size (k0_off11_inb d ob)) (fun _ => rfl)

/-- The rows it writes on the receiver, as the sender `d` names them. -/
def dstM (d : Dev nD) : Tr → Memref sig .tc .vmem S32x512 .f32
  | .A o oc => ((rAM.slice (Rect.unit (s := S3x128x512) ![o.val, 0, 0] S1x128x512.size (inb_rA o)) (fun _ => rfl)).squeeze S128x512
      squeezes_S1x128x512_S128x512).slice (Rect.unit (s := S128x512) (k0_off3 d (w oc.val)) S32x512.size (k0_off3_inb d oc)) (fun _ => rfl)
  | .B ob => (rBM.slice (Rect.unit (s := S3x32x512) ![ob.val, 0, 0] S1x32x512.size (inb_rB ob)) (fun _ => rfl)).squeeze S32x512
      squeezes_S1x32x512_S32x512
  | .GB ob => srcM d (.GB ob)
  | .GA0 o => srcM d (.GA0 o)
  | .GA o ob => srcM d (.GA o ob)

/-- Every view of a transfer is of 32-bit elements. -/
theorem wx {sp : Space} {s : Shape} (v : View sig .tc sp s .f32) : v.WordExact := View.wordExact_bits rfl

/-- The receiver, as the program computes it. -/
def tgt (d : Dev nD) : Tr → Dev nD
  | .A o oc => match o, oc with
    | 2, 3 => ⟨k0_dev7 d, k0_dev7_lt d⟩ | 2, 2 => ⟨k0_dev8 d, k0_dev8_lt d⟩
    | 2, 1 => ⟨k0_dev9 d, k0_dev9_lt d⟩ | 2, 0 => ⟨k0_dev10 d, k0_dev10_lt d⟩
    | 1, 3 => ⟨k0_dev11 d, k0_dev11_lt d⟩ | 1, 2 => ⟨k0_dev12 d, k0_dev12_lt d⟩
    | 1, 1 => ⟨k0_dev13 d, k0_dev13_lt d⟩ | 1, 0 => ⟨k0_dev14 d, k0_dev14_lt d⟩
    | 0, 3 => ⟨k0_dev15 d, k0_dev15_lt d⟩ | 0, 2 => ⟨k0_dev16 d, k0_dev16_lt d⟩
    | 0, 1 => ⟨k0_dev17 d, k0_dev17_lt d⟩ | 0, 0 => ⟨k0_dev18 d, k0_dev18_lt d⟩
  | .B ob => match ob with
    | 2 => ⟨k0_dev19 d, k0_dev19_lt d⟩ | 1 => ⟨k0_dev20 d, k0_dev20_lt d⟩ | 0 => ⟨k0_dev21 d, k0_dev21_lt d⟩
  | .GB ob => match ob with
    | 0 => ⟨k0_dev22 d, k0_dev22_lt d⟩ | 1 => ⟨k0_dev23 d, k0_dev23_lt d⟩ | 2 => ⟨k0_dev24 d, k0_dev24_lt d⟩
  | .GA0 o => match o with
    | 0 => ⟨k0_dev25 d, k0_dev25_lt d⟩ | 1 => ⟨k0_dev26 d, k0_dev26_lt d⟩ | 2 => ⟨k0_dev27 d, k0_dev27_lt d⟩
  | .GA o ob => match ob, o with
    | 0, 0 => ⟨k0_dev28 d, k0_dev28_lt d⟩ | 0, 1 => ⟨k0_dev29 d, k0_dev29_lt d⟩ | 0, 2 => ⟨k0_dev30 d, k0_dev30_lt d⟩
    | 1, 0 => ⟨k0_dev31 d, k0_dev31_lt d⟩ | 1, 1 => ⟨k0_dev32 d, k0_dev32_lt d⟩ | 1, 2 => ⟨k0_dev33 d, k0_dev33_lt d⟩
    | 2, 0 => ⟨k0_dev34 d, k0_dev34_lt d⟩ | 2, 1 => ⟨k0_dev35 d, k0_dev35_lt d⟩ | 2, 2 => ⟨k0_dev36 d, k0_dev36_lt d⟩

/-- The receiver of the i-th barrier signal. -/
def btgt (d : Dev nD) : Fin 6 → Dev nD
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩

/-- The barrier semaphore. -/
abbrev barS : Sem sig := (SemArray.scalar (sig.barrier 0 rfl) : Sems sig S_).sem

variable {F : FTy → Type} [FloatOps F]

/-- The kernel's effects. -/
abbrev KP (F : FTy → Type) [FloatOps F] := Prog (TpuEff nD τ sig (Elt F) Λ₀ .tc)

/-- Start the listed transfers in order. -/
def sends (d : Dev nD) : List Tr → KP F PUnit
  | [] => pure ⟨⟩
  | x :: xs => do
    Prog.lift (.enqueueDma (srcM d x) (.remote (Dev.tc (tgt d x)) (dstM d x) (.dma (sendSem x))) (.dma (recvSem x)) (wx _) (wx _) ⟨⟨rfl, Or.inl rfl⟩, trivial⟩)
    sends d xs

/-- Wait for the listed transfers to arrive here. -/
def recvs (d : Dev nD) : List Tr → KP F PUnit
  | [] => pure ⟨⟩
  | x :: xs => do
    Prog.lift (.waitDma2 (recvSem x) (srcM d x) (dstM d x) (wx _) (wx _))
    recvs d xs

/-- Wait for the listed transfers' sources to be free again. -/
def drains (d : Dev nD) : List Tr → KP F PUnit
  | [] => pure ⟨⟩
  | x :: xs => do
    Prog.lift (.waitDma2 (sendSem x) (dstM d x) (srcM d x) (wx _) (wx _))
    drains d xs

/-- One unit to each of the listed barrier receivers. -/
def signals (d : Dev nD) : List (Fin 6) → KP F PUnit
  | [] => pure ⟨⟩
  | i :: is => do
    semSignalWord (btgt d i) barS 1#32
    signals d is

/-- A quarter of the local partial product, from 128 rows of the left operand. -/
def prodQ (off offAcc : Fin 2 → ℕ) (h : ∀ a, off a + S128x256.size a ≤ S512x256.size a)
    (hA : ∀ a, offAcc a + S128x512.size a ≤ S512x512.size a) : KP F PUnit := do
  let a ← Prog.lift (.load aM (Rect.unit (s := S512x256) off S128x256.size h).toLoadRect (View.loadsAt_vmem h_S128x256))
  let b ← Prog.lift (.load bM (Rect.unit (s := S256x512) ![0, 0] S256x512.size inb_S256x512_S256x512_0_0).toLoadRect (View.loadsAt_vmem h_S256x512))
  let _ ← Prog.lift (.load accM (Rect.unit (s := S512x512) offAcc S128x512.size hA).toLoadRect (View.loadsAt_vmem h_S128x512))
  Prog.lift (.store accM (Rect.unit (s := S512x512) offAcc S128x512.size hA) (k0_pay1 (F := F) a b) Finset.univ (View.stores_vmem_bits_univ h_S128x512 rfl) (.inl rfl))

def sendA (o : Fin 3) : List Tr := [.A o 3, .A o 2, .A o 1, .A o 0]

/-- The quarter of first-level distance `o + 1`, multiplied and sent. -/
def blockA (d : Dev nD) (o : Fin 3) : KP F PUnit := do
  prodQ (k0_off1 d (w (1 + o.val))) (k0_off2 d (w (1 + o.val))) (k0_off1_inb d o) (k0_off2_inb d o)
  sends d (sendA o)

def recvA (oc : Fin 4) : List Tr := [.A 0 oc, .A 1 oc, .A 2 oc]

/-- Add the three received chunks of rotation `oc` to the own one. -/
def sumA (d : Dev nD) (oc : Fin 4) : KP F PUnit := do
  let x ← Prog.lift (.load accM (Rect.unit (s := S512x512) (k0_off7 d (w oc.val)) S32x512.size (k0_off7_inb d oc)).toLoadRect (View.loadsAt_vmem h_S32x512))
  let r0 ← Prog.lift (.load rAM (Rect.unit (s := S3x128x512) (k0_off8 d (w oc.val)) S1x32x512.size (k0_off8_inb d oc)).toLoadRect (View.loadsAt_vmem h_S1x32x512))
  let r1 ← Prog.lift (.load rAM (Rect.unit (s := S3x128x512) (k0_off9 d (w oc.val)) S1x32x512.size (k0_off9_inb d oc)).toLoadRect (View.loadsAt_vmem h_S1x32x512))
  let r2 ← Prog.lift (.load rAM (Rect.unit (s := S3x128x512) (k0_off10 d (w oc.val)) S1x32x512.size (k0_off10_inb d oc)).toLoadRect (View.loadsAt_vmem h_S1x32x512))
  let _ ← Prog.lift (.load accM (Rect.unit (s := S512x512) (k0_off7 d (w oc.val)) S32x512.size (k0_off7_inb d oc)).toLoadRect (View.loadsAt_vmem h_S32x512))
  Prog.lift (.store accM (Rect.unit (s := S512x512) (k0_off7 d (w oc.val)) S32x512.size (k0_off7_inb d oc)) (k0_pay9 (F := F) x r0 r1 r2) Finset.univ (View.stores_vmem_bits_univ h_S32x512 rfl) (.inl rfl))

/-- Add the three received second-level chunks and put the finished chunk in the result. -/
def sumB (d : Dev nD) : KP F PUnit := do
  let x ← Prog.lift (.load accM (Rect.unit (s := S512x512) (k0_off12 d) S32x512.size (k0_off12_inb d)).toLoadRect (View.loadsAt_vmem h_S32x512))
  let r0 ← Prog.lift (.load rBM (Rect.unit (s := S3x32x512) ![0, 0, 0] S1x32x512.size inb_S3x32x512_S1x32x512_0_0_0).toLoadRect (View.loadsAt_vmem h_S1x32x512))
  let r1 ← Prog.lift (.load rBM (Rect.unit (s := S3x32x512) ![1, 0, 0] S1x32x512.size inb_S3x32x512_S1x32x512_1_0_0).toLoadRect (View.loadsAt_vmem h_S1x32x512))
  let r2 ← Prog.lift (.load rBM (Rect.unit (s := S3x32x512) ![2, 0, 0] S1x32x512.size inb_S3x32x512_S1x32x512_2_0_0).toLoadRect (View.loadsAt_vmem h_S1x32x512))
  let _ ← Prog.lift (.load outM (Rect.unit (s := S512x512) (k0_off12 d) S32x512.size (k0_off12_inb d)).toLoadRect (View.loadsAt_vmem h_S32x512))
  Prog.lift (.store outM (Rect.unit (s := S512x512) (k0_off12 d) S32x512.size (k0_off12_inb d)) (k0_pay12 (F := F) x r0 r1 r2) Finset.univ (View.stores_vmem_bits_univ h_S32x512 rfl) (.inl rfl))

/-- The arrival waits that end the gather. -/
def recvGA : List Tr :=
  [.GA0 0, .GA 0 0, .GA 0 1, .GA 0 2, .GA0 1, .GA 1 0, .GA 1 1, .GA 1 2, .GA0 2, .GA 2 0, .GA 2 1, .GA 2 2]

def sendG0 : List Tr := [.GB 0, .GB 1, .GB 2, .GA0 0, .GA0 1, .GA0 2]
def sendG (ob : Fin 3) : List Tr := [.GA 0 ob, .GA 1 ob, .GA 2 ob]

/-- The source waits that end the kernel: all transfers, in the order they were started. -/
def drainAll : List Tr :=
  sendA 2 ++ sendA 1 ++ sendA 0 ++ [.B 2, .B 1, .B 0] ++ sendG0 ++ sendG 0 ++ sendG 1 ++ sendG 2

/-- One chunk rotation of the first level: the waits and the sum. -/
def blockS (d : Dev nD) (oc : Fin 4) : KP F PUnit := do
  recvs d (recvA oc)
  sumA d oc

/-- The body on device `d` from the barrier on. -/
def run (d : Dev nD) : KP F PUnit := do
  blockA d 2
  blockA d 1
  blockA d 0
  prodQ (k0_off5 d) (k0_off6 d) (k0_off5_inb d) (k0_off6_inb d)
  blockS d 3
  sends d [.B 2]
  blockS d 2
  sends d [.B 1]
  blockS d 1
  sends d [.B 0]
  blockS d 0
  recvs d [.B 0, .B 1, .B 2]
  sumB d
  sends d sendG0
  recvs d [.GB 0]
  sends d (sendG 0)
  recvs d [.GB 1]
  sends d (sendG 1)
  recvs d [.GB 2]
  sends d (sendG 2)
  recvs d recvGA
  drains d drainAll

/-- The whole body. -/
def prog : KP F PUnit := do
  let d ← Prog.lift .deviceId
  signals d [0, 1, 2, 3, 4, 5]
  semWaitWord barS 6#32
  run d

set_option maxRecDepth 65536 in
theorem body_eq : cc0_body (F := F) aM (Memref.isWhole_whole _) bM (Memref.isWhole_whole _) outM (Memref.isWhole_whole _) accM (Memref.isWhole_whole _)
    rAM (Memref.isWhole_whole _) rBM (Memref.isWhole_whole _)
    cc0_scratch3 cc0_scratch4 cc0_scratch5 cc0_scratch6 cc0_scratch7 cc0_scratch8 cc0_scratch9 cc0_scratch10 = prog := by
  rfl

end Cert.KernelIdeal.Gen

end
-- ==== Proof.Mesh.lean ====
/- The peers of a device and the rows its blocks start at, as arithmetic on the device number.

   Device `c` is at first-level coordinate `c % 4` and second-level coordinate `c / 4`.  A peer differs from `c` by an
   exclusive or with one of the six masks 1, 2, 3, 4, 8, 12.  Every offset the program computes from words is a
   multiple of 32 or 128 given by `kk` and `qa`. -/
module

public import proofs.«01_k».proof.Proof.Program

@[expose] public section

noncomputable section

namespace Cert.KernelIdeal.Gen

open Idealize.ShloMosaic Idealize.ShloMosaic.TcCoe Idealize.SL.Sem

/-- The six distances between peers. -/
def msk : Fin 6 → ℕ := ![1, 2, 3, 4, 8, 12]

/-- The peer of `c` at distance `i`. -/
def pr (c : Dev nD) (i : Fin 6) : Dev nD := ⟨(c.val ^^^ msk i) % 16, Nat.mod_lt _ (by decide)⟩

theorem pr_pr (c : Dev nD) (i : Fin 6) : pr (pr c i) i = c := by revert c i; decide +kernel

/-- The distance a transfer travels. -/
def mi : Tr → Fin 6
  | .A o _ => ⟨o.val, by omega⟩
  | .B ob => ⟨3 + ob.val, by omega⟩
  | .GB ob => ⟨3 + ob.val, by omega⟩
  | .GA0 o => ⟨o.val, by omega⟩
  | .GA o _ => ⟨o.val, by omega⟩

/-- The sender of the transfer `x` that arrives at `c`, and the receiver of the one `c` starts. -/
abbrev px (c : Dev nD) (x : Tr) : Dev nD := pr c (mi x)

theorem px_px (c : Dev nD) (x : Tr) : px (px c x) x = c := pr_pr c _

theorem tgt_eq (c : Dev nD) (x : Tr) : tgt c x = px c x := by revert c x; decide +kernel

theorem btgt_eq (c : Dev nD) (i : Fin 6) : btgt c i = pr c i := by revert c i; decide +kernel

/-- The quarter at first-level rotation `o`. -/
def qa (c : Dev nD) (o : Fin 4) : Fin 4 := ⟨(c.val % 4 ^^^ o.val) % 4, Nat.mod_lt _ (by decide)⟩

/-- The chunk inside a quarter at second-level rotation `oc`. -/
def qb (c : Dev nD) (oc : Fin 4) : Fin 4 := ⟨(c.val / 4 ^^^ oc.val) % 4, Nat.mod_lt _ (by decide)⟩

/-- The chunk of 32 rows at rotations `o`, `oc`. -/
def kk (c : Dev nD) (o oc : Fin 4) : Fin 16 := ⟨4 * (qa c o).val + (qb c oc).val, by omega⟩

theorem off1_eq (c : Dev nD) (o : Fin 3) : k0_off1 c (w (1 + o.val)) = ![128 * (qa c (up o)).val, 0] := by
  funext a; revert c o a; decide +kernel
theorem off2_eq (c : Dev nD) (o : Fin 3) : k0_off2 c (w (1 + o.val)) = ![128 * (qa c (up o)).val, 0] := by
  funext a; revert c o a; decide +kernel
theorem off3_eq (c : Dev nD) (oc : Fin 4) : k0_off3 c (w oc.val) = ![32 * (qb c oc).val, 0] := by
  funext a; revert c oc a; decide +kernel
theorem off4_eq (c : Dev nD) (o : Fin 3) (oc : Fin 4) : k0_off4 c (w (1 + o.val)) (w oc.val) = ![32 * (kk c (up o) oc).val, 0] := by
  funext a; revert c o oc a; decide +kernel
theorem off5_eq (c : Dev nD) : k0_off5 c = ![128 * (qa c 0).val, 0] := by funext a; revert c a; decide +kernel
theorem off6_eq (c : Dev nD) : k0_off6 c = ![128 * (qa c 0).val, 0] := by funext a; revert c a; decide +kernel
theorem off7_eq (c : Dev nD) (oc : Fin 4) : k0_off7 c (w oc.val) = ![32 * (kk c 0 oc).val, 0] := by
  funext a; revert c oc a; decide +kernel
theorem off8_eq (c : Dev nD) (oc : Fin 4) : k0_off8 c (w oc.val) = ![(0 : Fin 3).val, 32 * (qb c oc).val, 0] := by
  funext a; revert c oc a; decide +kernel
theorem off9_eq (c : Dev nD) (oc : Fin 4) : k0_off9 c (w oc.val) = ![(1 : Fin 3).val, 32 * (qb c oc).val, 0] := by
  funext a; revert c oc a; decide +kernel
theorem off10_eq (c : Dev nD) (oc : Fin 4) : k0_off10 c (w oc.val) = ![(2 : Fin 3).val, 32 * (qb c oc).val, 0] := by
  funext a; revert c oc a; decide +kernel
theorem off11_eq (c : Dev nD) (ob : Fin 3) : k0_off11 c (w (1 + ob.val)) = ![32 * (kk c 0 (up ob)).val, 0] := by
  funext a; revert c ob a; decide +kernel
theorem off12_eq (c : Dev nD) : k0_off12 c = ![32 * (kk c 0 0).val, 0] := by funext a; revert c a; decide +kernel
theorem off13_eq (c : Dev nD) : k0_off13 c = ![32 * (kk c 0 0).val, 0] := by funext a; revert c a; decide +kernel

/-- What a sender calls the chunk its first-level peer owns is that peer's own, and likewise at the second level. -/
theorem qb_A (c : Dev nD) (o : Fin 3) (oc : Fin 4) : qb (px c (.A o oc)) oc = qb c oc := by revert c o oc; decide +kernel
theorem kk_A (c : Dev nD) (o : Fin 3) (oc : Fin 4) : kk (px c (.A o oc)) (up o) oc = kk c 0 oc := by revert c o oc; decide +kernel
theorem kk_B (c : Dev nD) (ob : Fin 3) : kk (px c (.B ob)) 0 (up ob) = kk c 0 0 := by revert c ob; decide +kernel
theorem kk_GB (c : Dev nD) (ob : Fin 3) : kk (px c (.GB ob)) 0 0 = kk c 0 (up ob) := by revert c ob; decide +kernel
theorem kk_GA0 (c : Dev nD) (o : Fin 3) : kk (px c (.GA0 o)) 0 0 = kk c (up o) 0 := by revert c o; decide +kernel
theorem kk_GA (c : Dev nD) (o ob : Fin 3) : kk (px c (.GA o ob)) 0 (up ob) = kk c (up o) (up ob) := by
  revert c o ob; decide +kernel

/-- The four quarters are the four rotations, and the sixteen chunks the sixteen pairs of rotations. -/
theorem qa_inj (c : Dev nD) : ∀ o o' : Fin 4, qa c o = qa c o' → o = o' := by revert c; decide +kernel
theorem qa_surj (c : Dev nD) : ∀ q : Fin 4, ∃ o, qa c o = q := by revert c; decide +kernel
theorem qb_inj (c : Dev nD) : ∀ o o' : Fin 4, qb c o = qb c o' → o = o' := by revert c; decide +kernel
theorem qb_surj (c : Dev nD) : ∀ q : Fin 4, ∃ o, qb c o = q := by revert c; decide +kernel

/-- The device whose finished chunk is chunk `k`. -/
def owner (k : Fin 16) : Dev nD := ⟨k.val / 4 + 4 * (k.val % 4), by have := k.isLt; show _ < 16; omega⟩

theorem owner_kk (c : Dev nD) : owner (kk c 0 0) = c := by revert c; decide +kernel

/-- Both semaphore tables are injective, and no send semaphore is a receive semaphore. -/
theorem sendSem_inj : ∀ x y : Tr, sendSem x = sendSem y → x = y := by decide +kernel
theorem recvSem_inj : ∀ x y : Tr, recvSem x = recvSem y → x = y := by decide +kernel
theorem send_ne_recv : ∀ x y : Tr, sendSem x ≠ recvSem y := by decide +kernel

end Cert.KernelIdeal.Gen

end
-- ==== Proof.Pieces.lean ====
/- The elements each view of the program covers.

   A 512x512 buffer is cut in sixteen chunks of 32 rows (`chunk`) and in four quarters of 128 rows (`quarter`); the
   first-level receive buffer has three slots of 128 rows, cut in chunks (`boxA`), and the second-level one three
   slots of 32 rows (`boxB`).  Every view a transfer, a load or a store goes through covers exactly one of these, and
   its j-th element is at the place given by `rowAt`, `atA` or `atB`. -/
module

public import proofs.«01_k».proof.Proof.Mesh
public import Idealize.ShloMosaic.Lib.ValueIdxCore

@[expose] public section

noncomputable section

namespace Cert.KernelIdeal.Gen

open Idealize.ShloMosaic Idealize.ShloMosaic.TcCoe Idealize.SL.Sem Idealize.ShloMosaic.ValueIdx

/-- Rows `32k … 32k+31`, and rows `128q … 128q+127`. -/
def chunk (k : Fin 16) : Finset S512x512.Idx := Finset.univ.filter fun i => (i 0).val / 32 = k.val
def quarter (q : Fin 4) : Finset S512x512.Idx := Finset.univ.filter fun i => (i 0).val / 128 = q.val
/-- Chunk `b` of slot `o` of the first-level receive buffer, and slot `o` of the second-level one. -/
def boxA (o : Fin 3) (b : Fin 4) : Finset S3x128x512.Idx := Finset.univ.filter fun i => (i 0).val = o.val ∧ (i 1).val / 32 = b.val
def boxB (o : Fin 3) : Finset S3x32x512.Idx := Finset.univ.filter fun i => (i 0).val = o.val

theorem mem_chunk {k : Fin 16} {i : S512x512.Idx} : i ∈ chunk k ↔ (i 0).val / 32 = k.val := by simp [chunk]
theorem mem_quarter {q : Fin 4} {i : S512x512.Idx} : i ∈ quarter q ↔ (i 0).val / 128 = q.val := by simp [quarter]
theorem mem_boxA {o : Fin 3} {b : Fin 4} {i : S3x128x512.Idx} : i ∈ boxA o b ↔ (i 0).val = o.val ∧ (i 1).val / 32 = b.val := by
  simp [boxA]
theorem mem_boxB {o : Fin 3} {i : S3x32x512.Idx} : i ∈ boxB o ↔ (i 0).val = o.val := by simp [boxB]

/-- A rectangle of `n` whole rows of a 512x512 array, from row `r` on. -/
theorem mem_rows {off size : Fin 2 → ℕ} (inb : ∀ a, off a + size a ≤ S512x512.size a) {r n : ℕ} (h : off = ![r, 0]) (hs : size = ![n, 512])
    (i : S512x512.Idx) : i ∈ (Rect.unit (s := S512x512) off size inb).set ↔ r ≤ (i 0).val ∧ (i 0).val < r + n := by
  subst h hs
  rw [Rect.mem_set_unit]
  have h1 : (i 1).val < 512 := (i 1).isLt
  refine ⟨fun H => H 0, fun H a => ?_⟩
  match a with
  | ⟨0, _⟩ => exact H
  | ⟨1, _⟩ => exact ⟨Nat.zero_le _, by show (i 1).val < 0 + 512; omega⟩

theorem set_chunk {off : Fin 2 → ℕ} (inb : ∀ a, off a + S32x512.size a ≤ S512x512.size a) {k : Fin 16} (h : off = ![32 * k.val, 0]) :
    (Rect.unit (s := S512x512) off S32x512.size inb).set = chunk k := by
  ext i; rw [mem_rows inb h rfl, mem_chunk]; omega

theorem set_quarter {off : Fin 2 → ℕ} (inb : ∀ a, off a + S128x512.size a ≤ S512x512.size a) {q : Fin 4} (h : off = ![128 * q.val, 0]) :
    (Rect.unit (s := S512x512) off S128x512.size inb).set = quarter q := by
  ext i; rw [mem_rows inb h rfl, mem_quarter]; omega

theorem set_boxA {off : Fin 3 → ℕ} (inb : ∀ a, off a + S1x32x512.size a ≤ S3x128x512.size a) {o : Fin 3} {b : Fin 4}
    (h : off = ![o.val, 32 * b.val, 0]) : (Rect.unit (s := S3x128x512) off S1x32x512.size inb).set = boxA o b := by
  subst h
  ext i; rw [Rect.mem_set_unit, mem_boxA]
  have h2 : (i 2).val < 512 := (i 2).isLt
  constructor
  · intro H
    have H0 : o.val ≤ (i 0).val ∧ (i 0).val < o.val + 1 := H 0
    have H1 : 32 * b.val ≤ (i 1).val ∧ (i 1).val < 32 * b.val + 32 := H 1
    omega
  · intro H a
    match a with
    | ⟨0, _⟩ => show o.val ≤ (i 0).val ∧ (i 0).val < o.val + 1; omega
    | ⟨1, _⟩ => show 32 * b.val ≤ (i 1).val ∧ (i 1).val < 32 * b.val + 32; omega
    | ⟨2, _⟩ => exact ⟨Nat.zero_le _, by show (i 2).val < 0 + 512; omega⟩

theorem set_boxB {o : ℕ} (inb : ∀ a, (![o, 0, 0] : Fin 3 → ℕ) a + S1x32x512.size a ≤ S3x32x512.size a) {p : Fin 3} (h : o = p.val) :
    (Rect.unit (s := S3x32x512) ![o, 0, 0] S1x32x512.size inb).set = boxB p := by
  subst h
  ext i; rw [Rect.mem_set_unit, mem_boxB]
  have h2 : (i 2).val < 512 := (i 2).isLt
  have h1 : (i 1).val < 32 := (i 1).isLt
  constructor
  · intro H
    have H0 : p.val ≤ (i 0).val ∧ (i 0).val < p.val + 1 := H 0
    omega
  · intro H a
    match a with
    | ⟨0, _⟩ => show p.val ≤ (i 0).val ∧ (i 0).val < p.val + 1; omega
    | ⟨1, _⟩ => exact ⟨Nat.zero_le _, by show (i 1).val < 0 + 32; omega⟩
    | ⟨2, _⟩ => exact ⟨Nat.zero_le _, by show (i 2).val < 0 + 512; omega⟩

/-! ## Where a view's element is -/

def rowAt (k : Fin 16) (j : S32x512.Idx) : S512x512.Idx :=
  ix2 (⟨32 * k.val + (j 0).val, by have : (j 0).val < 32 := (j 0).isLt; omega⟩ : Fin 512) (j 1 : Fin 512)
def atA (o : Fin 3) (b : Fin 4) (j : S32x512.Idx) : S3x128x512.Idx :=
  ix3 o (⟨32 * b.val + (j 0).val, by have : (j 0).val < 32 := (j 0).isLt; omega⟩ : Fin 128) (j 1 : Fin 512)
def atB (o : Fin 3) (j : S32x512.Idx) : S3x32x512.Idx := ix3 o (j 0 : Fin 32) (j 1 : Fin 512)

theorem emb_row {off : Fin 2 → ℕ} (inb : ∀ a, off a + S32x512.size a ≤ S512x512.size a) {k : Fin 16} (h : off = ![32 * k.val, 0])
    (j : S32x512.Idx) : (Rect.unit (s := S512x512) off S32x512.size inb).emb j = rowAt k j := by
  subst h
  funext a; apply Fin.ext; rw [Rect.emb_apply]
  match a with
  | ⟨0, _⟩ => show 32 * k.val + 1 * (j 0).val = 32 * k.val + (j 0).val; omega
  | ⟨1, _⟩ => show 0 + 1 * (j 1).val = (j 1).val; omega

theorem atA_mem (o : Fin 3) (b : Fin 4) (j : S32x512.Idx) : atA o b j ∈ boxA o b := by
  have : (j 0).val < 32 := (j 0).isLt
  rw [mem_boxA]; exact ⟨rfl, by show (32 * b.val + (j 0).val) / 32 = b.val; omega⟩
theorem atB_mem (o : Fin 3) (j : S32x512.Idx) : atB o j ∈ boxB o := by rw [mem_boxB]; rfl
theorem rowAt_mem (k : Fin 16) (j : S32x512.Idx) : rowAt k j ∈ chunk k := by
  have : (j 0).val < 32 := (j 0).isLt
  rw [mem_chunk]; show (32 * k.val + (j 0).val) / 32 = k.val; omega

/-- Each chunk's elements are the places named. -/
theorem exists_atA {o : Fin 3} {b : Fin 4} {i : S3x128x512.Idx} (h : i ∈ boxA o b) : ∃ j, atA o b j = i := by
  rw [mem_boxA] at h
  refine ⟨ix2 (⟨(i 1).val % 32, Nat.mod_lt _ (by decide)⟩ : Fin 32) (i 2 : Fin 512), ?_⟩
  funext a; apply Fin.ext
  match a with
  | ⟨0, _⟩ => exact h.1.symm
  | ⟨1, _⟩ => show 32 * b.val + (i 1).val % 32 = (i 1).val; omega
  | ⟨2, _⟩ => rfl
theorem exists_atB {o : Fin 3} {i : S3x32x512.Idx} (h : i ∈ boxB o) : ∃ j, atB o j = i := by
  rw [mem_boxB] at h
  refine ⟨ix2 (i 1 : Fin 32) (i 2 : Fin 512), ?_⟩
  funext a; apply Fin.ext
  match a with
  | ⟨0, _⟩ => exact h.symm
  | ⟨1, _⟩ => rfl
  | ⟨2, _⟩ => rfl
theorem exists_rowAt {k : Fin 16} {i : S512x512.Idx} (h : i ∈ chunk k) : ∃ j, rowAt k j = i := by
  rw [mem_chunk] at h
  refine ⟨ix2 (⟨(i 0).val % 32, Nat.mod_lt _ (by decide)⟩ : Fin 32) (i 1 : Fin 512), ?_⟩
  funext a; apply Fin.ext
  match a with
  | ⟨0, _⟩ => show 32 * k.val + (i 0).val % 32 = (i 0).val; omega
  | ⟨1, _⟩ => rfl

/-! ## The transfers' views -/

/-- The chunk of the 512x512 buffer a transfer reads. -/
def srcK (c : Dev nD) : Tr → Fin 16
  | .A o oc => kk c (up o) oc
  | .B ob => kk c 0 (up ob)
  | .GB _ => kk c 0 0
  | .GA0 _ => kk c 0 0
  | .GA _ ob => kk c 0 (up ob)

theorem acc_emb {off : Fin 2 → ℕ} (inb : ∀ a, off a + S32x512.size a ≤ S512x512.size a) {k : Fin 16} (h : off = ![32 * k.val, 0])
    (j : S32x512.Idx) : (accM.slice (Rect.unit (s := S512x512) off S32x512.size inb) (fun _ => rfl)).view.emb j = rowAt k j :=
  emb_row inb h j
theorem out_emb {off : Fin 2 → ℕ} (inb : ∀ a, off a + S32x512.size a ≤ S512x512.size a) {k : Fin 16} (h : off = ![32 * k.val, 0])
    (j : S32x512.Idx) : (outM.slice (Rect.unit (s := S512x512) off S32x512.size inb) (fun _ => rfl)).view.emb j = rowAt k j :=
  emb_row inb h j
theorem acc_set {off : Fin 2 → ℕ} (inb : ∀ a, off a + S32x512.size a ≤ S512x512.size a) {k : Fin 16} (h : off = ![32 * k.val, 0]) :
    (accM.slice (Rect.unit (s := S512x512) off S32x512.size inb) (fun _ => rfl)).view.set = chunk k :=
  (View.set_slice_whole _ _).trans (set_chunk inb h)
theorem out_set {off : Fin 2 → ℕ} (inb : ∀ a, off a + S32x512.size a ≤ S512x512.size a) {k : Fin 16} (h : off = ![32 * k.val, 0]) :
    (outM.slice (Rect.unit (s := S512x512) off S32x512.size inb) (fun _ => rfl)).view.set = chunk k :=
  (View.set_slice_whole _ _).trans (set_chunk inb h)

theorem dstA_emb (c : Dev nD) (o : Fin 3) (oc : Fin 4) (j : S32x512.Idx) : (dstM c (.A o oc)).view.emb j = atA o (qb c oc) j := by
  show (Rect.unit (s := S3x128x512) ![o.val, 0, 0] S1x128x512.size (inb_rA o)).emb (Shape.reshapeEquiv _
    ((Rect.unit (s := S128x512) (k0_off3 c (w oc.val)) S32x512.size (k0_off3_inb c oc)).emb j)) = _
  erw [Shape.reshapeEquiv_cons_one (d := ![128, 512])]
  funext a; apply Fin.ext; rw [Rect.emb_apply]
  match a with
  | ⟨0, _⟩ => rfl
  | ⟨1, _⟩ =>
    have := congrFun (off3_eq c oc) 0
    show 0 + 1 * (k0_off3 c (w oc.val) 0 + 1 * (j 0).val) = 32 * (qb c oc).val + (j 0).val
    rw [this]; show 0 + 1 * (32 * (qb c oc).val + 1 * (j 0).val) = _; omega
  | ⟨2, _⟩ =>
    have := congrFun (off3_eq c oc) 1
    show 0 + 1 * (k0_off3 c (w oc.val) 1 + 1 * (j 1).val) = (j 1).val
    rw [this]; show 0 + 1 * (0 + 1 * (j 1).val) = _; omega

theorem dstB_emb (c : Dev nD) (ob : Fin 3) (j : S32x512.Idx) : (dstM c (.B ob)).view.emb j = atB ob j := by
  show (Rect.unit (s := S3x32x512) ![ob.val, 0, 0] S1x32x512.size (inb_rB ob)).emb (Shape.reshapeEquiv _ j) = _
  erw [Shape.reshapeEquiv_cons_one (d := ![32, 512])]
  funext a; apply Fin.ext; rw [Rect.emb_apply]
  match a with
  | ⟨0, _⟩ => rfl
  | ⟨1, _⟩ => show 0 + 1 * (j 0).val = (j 0).val; omega
  | ⟨2, _⟩ => show 0 + 1 * (j 1).val = (j 1).val; omega

theorem dstA_set (c : Dev nD) (o : Fin 3) (oc : Fin 4) : (dstM c (.A o oc)).view.set = boxA o (qb c oc) := by
  ext i; constructor
  · intro h
    obtain ⟨j, -, rfl⟩ := Finset.mem_map.1 h
    rw [dstA_emb]; exact atA_mem _ _ _
  · intro h
    obtain ⟨j, rfl⟩ := exists_atA h
    rw [← dstA_emb c o oc j]; exact View.emb_mem_set _ _

theorem dstB_set (c : Dev nD) (ob : Fin 3) : (dstM c (.B ob)).view.set = boxB ob := by
  ext i; constructor
  · intro h
    obtain ⟨j, -, rfl⟩ := Finset.mem_map.1 h
    rw [dstB_emb]; exact atB_mem _ _
  · intro h
    obtain ⟨j, rfl⟩ := exists_atB h
    rw [← dstB_emb c ob j]; exact View.emb_mem_set _ _

/-! ## Chunks are disjoint and make up the whole -/

theorem chunk_disj {k k' : Fin 16} (h : k ≠ k') : Disjoint (chunk k) (chunk k') :=
  Finset.disjoint_left.2 fun i hi hi' => h (Fin.ext ((mem_chunk.1 hi).symm.trans (mem_chunk.1 hi')))
theorem kk_inj (c : Dev nD) (p p' : Fin 4 × Fin 4) (h : kk c p.1 p.2 = kk c p'.1 p'.2) : p = p' := by
  have h' : 4 * (qa c p.1).val + (qb c p.2).val = 4 * (qa c p'.1).val + (qb c p'.2).val := congrArg Fin.val h
  exact Prod.ext (qa_inj c _ _ (Fin.ext (by omega))) (qb_inj c _ _ (Fin.ext (by omega)))

/-- Over the rotations of `c`: the chunks partition the buffer, -/
theorem chunks_disj (c : Dev nD) : ∀ p p' : Fin 4 × Fin 4, p ≠ p' → Disjoint (chunk (kk c p.1 p.2)) (chunk (kk c p'.1 p'.2)) :=
  fun p p' h => chunk_disj fun e => h (kk_inj c p p' e)
theorem chunks_cover (c : Dev nD) : (Finset.univ.biUnion fun p : Fin 4 × Fin 4 => chunk (kk c p.1 p.2)) = Finset.univ := by
  ext i; simp only [Finset.mem_biUnion, Finset.mem_univ, true_and, iff_true]
  have hi : (i 0).val < 512 := (i 0).isLt
  obtain ⟨o, ho⟩ := qa_surj c ⟨(i 0).val / 128, by omega⟩
  obtain ⟨b, hb⟩ := qb_surj c ⟨(i 0).val / 32 % 4, by omega⟩
  refine ⟨(o, b), mem_chunk.2 ?_⟩
  show _ = 4 * (qa c o).val + (qb c b).val
  rw [ho, hb]; show _ = 4 * ((i 0).val / 128) + (i 0).val / 32 % 4; omega

/-- the quarters partition it, -/
theorem quarters_disj (c : Dev nD) : ∀ o o' : Fin 4, o ≠ o' → Disjoint (quarter (qa c o)) (quarter (qa c o')) :=
  fun o o' h => Finset.disjoint_left.2 fun i hi hi' =>
    h (qa_inj c _ _ (Fin.ext ((mem_quarter.1 hi).symm.trans (mem_quarter.1 hi'))))
theorem quarters_cover (c : Dev nD) : (Finset.univ.biUnion fun o : Fin 4 => quarter (qa c o)) = Finset.univ := by
  ext i; simp only [Finset.mem_biUnion, Finset.mem_univ, true_and, iff_true]
  have hi : (i 0).val < 512 := (i 0).isLt
  obtain ⟨o, ho⟩ := qa_surj c ⟨(i 0).val / 128, by omega⟩
  exact ⟨o, mem_quarter.2 (by rw [ho])⟩

/-- a quarter's chunks partition it, -/
theorem quarter_chunks_disj (c : Dev nD) (o : Fin 4) : ∀ b b' : Fin 4, b ≠ b' → Disjoint (chunk (kk c o b)) (chunk (kk c o b')) :=
  fun b b' h => chunk_disj fun e => h (congrArg Prod.snd (kk_inj c (o, b) (o, b') e))
theorem quarter_chunks (c : Dev nD) (o : Fin 4) : (Finset.univ.biUnion fun b : Fin 4 => chunk (kk c o b)) = quarter (qa c o) := by
  ext i; simp only [Finset.mem_biUnion, Finset.mem_univ, true_and, mem_quarter, mem_chunk]
  constructor
  · rintro ⟨b, h⟩
    have h' : (i 0).val / 32 = 4 * (qa c o).val + (qb c b).val := h
    omega
  · intro h
    obtain ⟨b, hb⟩ := qb_surj c ⟨(i 0).val / 32 % 4, by omega⟩
    refine ⟨b, ?_⟩
    show _ = 4 * (qa c o).val + (qb c b).val
    rw [hb]; show _ = 4 * (qa c o).val + (i 0).val / 32 % 4; omega

/-- and the receive boxes partition the receive buffers. -/
theorem boxA_disj (c : Dev nD) : ∀ p p' : Fin 3 × Fin 4, p ≠ p' → Disjoint (boxA p.1 (qb c p.2)) (boxA p'.1 (qb c p'.2)) :=
  fun p p' h => Finset.disjoint_left.2 fun i hi hi' => by
    have h1 := mem_boxA.1 hi; have h2 := mem_boxA.1 hi'
    exact h (Prod.ext (Fin.ext (h1.1.symm.trans h2.1)) (qb_inj c _ _ (Fin.ext (h1.2.symm.trans h2.2))))
theorem boxA_cover (c : Dev nD) : (Finset.univ.biUnion fun p : Fin 3 × Fin 4 => boxA p.1 (qb c p.2)) = Finset.univ := by
  ext i; simp only [Finset.mem_biUnion, Finset.mem_univ, true_and, iff_true]
  have hi : (i 1).val < 128 := (i 1).isLt
  obtain ⟨b, hb⟩ := qb_surj c ⟨(i 1).val / 32, by omega⟩
  exact ⟨((i 0 : Fin 3), b), mem_boxA.2 ⟨rfl, by rw [hb]⟩⟩
theorem boxB_disj : ∀ p p' : Fin 3, p ≠ p' → Disjoint (boxB p) (boxB p') :=
  fun p p' h => Finset.disjoint_left.2 fun i hi hi' => h (Fin.ext ((mem_boxB.1 hi).symm.trans (mem_boxB.1 hi')))
theorem boxB_cover : (Finset.univ.biUnion fun p : Fin 3 => boxB p) = Finset.univ := by
  ext i; simp only [Finset.mem_biUnion, Finset.mem_univ, true_and, iff_true]
  exact ⟨(i 0 : Fin 3), mem_boxB.2 rfl⟩

end Cert.KernelIdeal.Gen

end
-- ==== Proof.Content.lean ====
/- What the buffers hold: the local products, the sums of the two levels and the finished result, and the values of the
   program's three payloads in these terms. -/
module

public import proofs.«01_k».proof.Proof.Pieces
public import Idealize.ShloMosaic.Lib.Pipeline.Value

@[expose] public section

noncomputable section

namespace Cert.KernelIdeal.Gen

open Idealize.ShloMosaic Idealize.ShloMosaic.TcCoe Idealize.SL.Sem Idealize.ShloMosaic.ValueIdx

variable {F : FTy → Type} [FloatOps F]
variable (X : Dev nD → Vec F S512x256 .f32) (Y : Dev nD → Vec F S256x512 .f32)

/-- 128 rows of the left operand. -/
def rowsOf (x : Vec F S512x256 .f32) (q : Fin 4) : Vec F S128x256 .f32 := fun j =>
  x (ix2 (⟨128 * q.val + (j 0).val, by have : (j 0).val < 128 := (j 0).isLt; omega⟩ : Fin 512) (j 1 : Fin 256))

/-- A quarter's element at 128 local rows. -/
def quAt (q : Fin 4) (j : S128x512.Idx) : S512x512.Idx :=
  ix2 (⟨128 * q.val + (j 0).val, by have : (j 0).val < 128 := (j 0).isLt; omega⟩ : Fin 512) (j 1 : Fin 512)

/-- Device `c`'s product: row `i 0` of its left operand times its right operand, a quarter at a time. -/
def PP (c : Dev nD) : Vec F S512x512 .f32 := fun i =>
  k0_pay1 (F := F) (rowsOf (X c) ⟨(i 0).val / 128, by have : (i 0).val < 512 := (i 0).isLt; omega⟩) (Y c)
    (ix2 (⟨(i 0).val % 128, Nat.mod_lt _ (by decide)⟩ : Fin 128) (i 1 : Fin 512))

/-- Four addends, from the left. -/
def add4 (a b c d : Elt F .f32) : Elt F .f32 := FloatOps.addf (φ := .f32) (FloatOps.addf (φ := .f32) (FloatOps.addf (φ := .f32) a b) c) d

/-- The first-level sum on device `c`, and the second-level sum of these. -/
def S1 (c : Dev nD) : Vec F S512x512 .f32 := fun i => add4 (PP X Y c i) (PP X Y (pr c 0) i) (PP X Y (pr c 1) i) (PP X Y (pr c 2) i)
def S2 (c : Dev nD) : Vec F S512x512 .f32 := fun i => add4 (S1 X Y c i) (S1 X Y (pr c 3) i) (S1 X Y (pr c 4) i) (S1 X Y (pr c 5) i)

/-- The result on every device: chunk `k` is the one its owner finished. -/
def OO : Vec F S512x512 .f32 := fun i => S2 X Y (owner ⟨(i 0).val / 32, by have : (i 0).val < 512 := (i 0).isLt; omega⟩) i

/-- The first-level receive buffer of `c` once full: slot `o` holds the own quarter of peer `o`'s product. -/
def RA (c : Dev nD) : Vec F S3x128x512 .f32 := fun i =>
  PP X Y (pr c ⟨(i 0).val, by have : (i 0).val < 3 := (i 0).isLt; omega⟩)
    (ix2 (⟨128 * (qa c 0).val + (i 1).val, by have : (i 1).val < 128 := (i 1).isLt; omega⟩ : Fin 512) (i 2 : Fin 512))

/-- The second-level receive buffer of `c` once full: slot `o` holds the own chunk of the peer's first-level sum. -/
def RB (c : Dev nD) : Vec F S3x32x512 .f32 := fun i =>
  S1 X Y (pr c ⟨3 + (i 0).val, by have : (i 0).val < 3 := (i 0).isLt; omega⟩)
    (ix2 (⟨32 * (kk c 0 0).val + (i 1).val, by have : (i 1).val < 32 := (i 1).isLt; omega⟩ : Fin 512) (i 2 : Fin 512))

theorem RA_at (c : Dev nD) (o : Fin 3) (oc : Fin 4) (j : S32x512.Idx) :
    RA X Y c (atA o (qb c oc) j) = PP X Y (px c (.A o oc)) (rowAt (kk c 0 oc) j) := by
  unfold RA
  refine congrArg (PP X Y (px c (.A o oc))) ?_
  funext a; apply Fin.ext
  match a with
  | ⟨0, _⟩ =>
    show 128 * (qa c 0).val + (32 * (qb c oc).val + (j 0).val) = 32 * (4 * (qa c 0).val + (qb c oc).val) + (j 0).val
    omega
  | ⟨1, _⟩ => rfl

theorem RB_at (c : Dev nD) (ob : Fin 3) (j : S32x512.Idx) :
    RB X Y c (atB ob j) = S1 X Y (px c (.B ob)) (rowAt (kk c 0 0) j) := by
  unfold RB
  refine congrArg (S1 X Y (px c (.B ob))) ?_
  funext a; apply Fin.ext
  match a with
  | ⟨0, _⟩ => rfl
  | ⟨1, _⟩ => rfl

/-! ## The transfers' contents -/

/-- What the source of a transfer of `c` holds. -/
def srcC (c : Dev nD) : (x : Tr) → (srcM c x).view.ty.Contents (Elt F)
  | .A _ _ => PP X Y c
  | .B _ => S1 X Y c
  | .GB _ => OO X Y
  | .GA0 _ => OO X Y
  | .GA _ _ => OO X Y

/-- What the destination of a transfer of `c` holds once it has landed on the receiver. -/
def landC (c : Dev nD) : (x : Tr) → (dstM c x).view.ty.Contents (Elt F)
  | .A o oc => RA X Y (px c (.A o oc))
  | .B ob => RB X Y (px c (.B ob))
  | .GB _ => OO X Y
  | .GA0 _ => OO X Y
  | .GA _ _ => OO X Y

/-- A transfer writes what its destination is to hold. -/
theorem landing (c : Dev nD) (x : Tr) (fd : (dstM c x).view.ty.Contents (Elt F)) :
    ∀ i ∈ (dstM c x).view.set, (dstM c x).view.write (Elt F) fd ((srcM c x).view.read (Elt F) (srcC X Y c x)) Finset.univ i
      = landC X Y c x i := by
  intro i hi
  obtain ⟨j, -, rfl⟩ := Finset.mem_map.1 hi
  rw [View.write_emb_of_mem _ _ (Finset.mem_univ _), View.read_apply]
  cases x with
  | A o oc =>
    show PP X Y c ((srcM c (.A o oc)).view.emb j) = RA X Y (px c (.A o oc)) ((dstM c (.A o oc)).view.emb j)
    rw [dstA_emb]
    have e1 : (srcM c (.A o oc)).view.emb j = rowAt (kk c (up o) oc) j := acc_emb _ (off4_eq c o oc) j
    have e2 := RA_at X Y (px c (.A o oc)) o oc j
    rw [qb_A] at e2
    have e3 := kk_A (px c (.A o oc)) o oc
    rw [px_px] at e3
    rw [e1, e2, ← e3]
    exact congrArg (fun z => PP X Y z _) (px_px c (.A o oc)).symm
  | B ob =>
    show S1 X Y c ((srcM c (.B ob)).view.emb j) = RB X Y (px c (.B ob)) ((dstM c (.B ob)).view.emb j)
    rw [dstB_emb]
    have e1 : (srcM c (.B ob)).view.emb j = rowAt (kk c 0 (up ob)) j := acc_emb _ (off11_eq c ob) j
    have e2 := RB_at X Y (px c (.B ob)) ob j
    have e3 := kk_B (px c (.B ob)) ob
    rw [px_px] at e3
    rw [e1, e2, ← e3]
    exact congrArg (fun z => S1 X Y z _) (px_px c (.B ob)).symm
  | GB ob => rfl
  | GA0 o => rfl
  | GA o ob => rfl

/-! ## The payloads -/

theorem sum4_apply (x : Vec F S32x512 .f32) (r0 r1 r2 : Vec F S1x32x512 .f32) (j : S32x512.Idx) :
    k0_pay9 (F := F) x r0 r1 r2 j = add4 (x j) (r0 (Fin.cons ⟨0, Nat.one_pos⟩ j)) (r1 (Fin.cons ⟨0, Nat.one_pos⟩ j))
      (r2 (Fin.cons ⟨0, Nat.one_pos⟩ j)) := by
  unfold k0_pay9
  rw [shapeCast_self]
  show add4 _ _ _ _ = _
  unfold add4
  erw [shapeCast_dropUnit_apply ![32, 512], shapeCast_dropUnit_apply ![32, 512], shapeCast_dropUnit_apply ![32, 512]]

theorem pay12_eq (x : Vec F S32x512 .f32) (r0 r1 r2 : Vec F S1x32x512 .f32) : k0_pay12 (F := F) x r0 r1 r2 = k0_pay9 x r0 r1 r2 := by
  exact (shapeCast_self (k0_pay12 (F := F) x r0 r1 r2) _).symm

/-- A receive box read through a load, at an element. -/
theorem read_boxA {off : Fin 3 → ℕ} (inb : ∀ a, off a + S1x32x512.size a ≤ S3x128x512.size a) {o : Fin 3} {b : Fin 4}
    (h : off = ![o.val, 32 * b.val, 0]) (f : Vec F S3x128x512 .f32) (j : S32x512.Idx) :
    rAM.view.readAt (Elt F) (Rect.unit (s := S3x128x512) off S1x32x512.size inb).toLoadRect f (Fin.cons ⟨0, Nat.one_pos⟩ j) = f (atA o b j) := by
  subst h
  show f _ = f _
  congr 1
  funext a; apply Fin.ext
  match a with
  | ⟨0, _⟩ => rfl
  | ⟨1, _⟩ => show 32 * b.val + 1 * (j 0).val = 32 * b.val + (j 0).val; omega
  | ⟨2, _⟩ => show 0 + 1 * (j 1).val = (j 1).val; omega

theorem read_boxB {n : ℕ} (inb : ∀ a, (![n, 0, 0] : Fin 3 → ℕ) a + S1x32x512.size a ≤ S3x32x512.size a) {o : Fin 3}
    (h : n = o.val) (f : Vec F S3x32x512 .f32) (j : S32x512.Idx) :
    rBM.view.readAt (Elt F) (Rect.unit (s := S3x32x512) ![n, 0, 0] S1x32x512.size inb).toLoadRect f (Fin.cons ⟨0, Nat.one_pos⟩ j) = f (atB o j) := by
  subst h
  show f _ = f _
  congr 1
  funext a; apply Fin.ext
  match a with
  | ⟨0, _⟩ => rfl
  | ⟨1, _⟩ => show 0 + 1 * (j 0).val = (j 0).val; omega
  | ⟨2, _⟩ => show 0 + 1 * (j 1).val = (j 1).val; omega

theorem read_row {off : Fin 2 → ℕ} (inb : ∀ a, off a + S32x512.size a ≤ S512x512.size a) {k : Fin 16} (h : off = ![32 * k.val, 0])
    (f : Vec F S512x512 .f32) (j : S32x512.Idx) :
    accM.view.readAt (Elt F) (Rect.unit (s := S512x512) off S32x512.size inb).toLoadRect f j = f (rowAt k j) := by
  show f _ = f _
  congr 1
  exact emb_row inb h j

/-- The first-level sum of a chunk is what `S1` says. -/
theorem sumA_val (c : Dev nD) (oc : Fin 4) (f : Vec F S512x512 .f32) : ∀ i ∈ chunk (kk c 0 oc),
    (accM.access (Rect.unit (s := S512x512) (k0_off7 c (w oc.val)) S32x512.size (k0_off7_inb c oc))).write (Elt F) f
      (k0_pay9 (F := F) (accM.view.readAt (Elt F) (Rect.unit (s := S512x512) (k0_off7 c (w oc.val)) S32x512.size (k0_off7_inb c oc)).toLoadRect (PP X Y c))
        (rAM.view.readAt (Elt F) (Rect.unit (s := S3x128x512) (k0_off8 c (w oc.val)) S1x32x512.size (k0_off8_inb c oc)).toLoadRect (RA X Y c))
        (rAM.view.readAt (Elt F) (Rect.unit (s := S3x128x512) (k0_off9 c (w oc.val)) S1x32x512.size (k0_off9_inb c oc)).toLoadRect (RA X Y c))
        (rAM.view.readAt (Elt F) (Rect.unit (s := S3x128x512) (k0_off10 c (w oc.val)) S1x32x512.size (k0_off10_inb c oc)).toLoadRect (RA X Y c)))
      Finset.univ i = S1 X Y c i := by
  intro i hi
  obtain ⟨j, rfl⟩ := exists_rowAt hi
  have he : (accM.access (Rect.unit (s := S512x512) (k0_off7 c (w oc.val)) S32x512.size (k0_off7_inb c oc))).emb j = rowAt (kk c 0 oc) j :=
    emb_row _ (off7_eq c oc) j
  rw [← he, View.write_emb_of_mem _ _ (Finset.mem_univ _), he]
  refine (sum4_apply _ _ _ _ j).trans ?_
  rw [read_row _ (off7_eq c oc), read_boxA _ (off8_eq c oc), read_boxA _ (off9_eq c oc), read_boxA _ (off10_eq c oc), RA_at, RA_at, RA_at]
  rfl

/-- The second-level sum of the own chunk is the result's. -/
theorem sumB_val (c : Dev nD) (f : Vec F S512x512 .f32) : ∀ i ∈ chunk (kk c 0 0),
    (outM.access (Rect.unit (s := S512x512) (k0_off12 c) S32x512.size (k0_off12_inb c))).write (Elt F) f
      (k0_pay12 (F := F) (accM.view.readAt (Elt F) (Rect.unit (s := S512x512) (k0_off12 c) S32x512.size (k0_off12_inb c)).toLoadRect (S1 X Y c))
        (rBM.view.readAt (Elt F) (Rect.unit (s := S3x32x512) ![0, 0, 0] S1x32x512.size inb_S3x32x512_S1x32x512_0_0_0).toLoadRect (RB X Y c))
        (rBM.view.readAt (Elt F) (Rect.unit (s := S3x32x512) ![1, 0, 0] S1x32x512.size inb_S3x32x512_S1x32x512_1_0_0).toLoadRect (RB X Y c))
        (rBM.view.readAt (Elt F) (Rect.unit (s := S3x32x512) ![2, 0, 0] S1x32x512.size inb_S3x32x512_S1x32x512_2_0_0).toLoadRect (RB X Y c)))
      Finset.univ i = OO X Y i := by
  intro i hi
  have ho : OO X Y i = S2 X Y c i := by
    unfold OO
    rw [show (⟨(i 0).val / 32, _⟩ : Fin 16) = kk c 0 0 from Fin.ext (mem_chunk.1 hi), owner_kk]
  rw [ho, pay12_eq]
  obtain ⟨j, rfl⟩ := exists_rowAt hi
  have he : (outM.access (Rect.unit (s := S512x512) (k0_off12 c) S32x512.size (k0_off12_inb c))).emb j = rowAt (kk c 0 0) j :=
    emb_row _ (off12_eq c) j
  rw [← he, View.write_emb_of_mem _ _ (Finset.mem_univ _), he]
  refine (sum4_apply _ _ _ _ j).trans ?_
  have e0 := read_boxB inb_S3x32x512_S1x32x512_0_0_0 (o := 0) rfl (RB X Y c) j
  have e1 := read_boxB inb_S3x32x512_S1x32x512_1_0_0 (o := 1) rfl (RB X Y c) j
  have e2 := read_boxB inb_S3x32x512_S1x32x512_2_0_0 (o := 2) rfl (RB X Y c) j
  rw [read_row _ (off12_eq c), e0, e1, e2, RB_at, RB_at, RB_at]
  rfl

/-- The product of a quarter is what `PP` says. -/
theorem prod_val (c : Dev nD) {off offA : Fin 2 → ℕ} (h : ∀ a, off a + S128x256.size a ≤ S512x256.size a)
    (hA : ∀ a, offA a + S128x512.size a ≤ S512x512.size a) {q : Fin 4} (e : off = ![128 * q.val, 0]) (eA : offA = ![128 * q.val, 0])
    (f : Vec F S512x512 .f32) : ∀ i ∈ quarter q,
    (accM.access (Rect.unit (s := S512x512) offA S128x512.size hA)).write (Elt F) f
      (k0_pay1 (F := F) (aM.view.readAt (Elt F) (Rect.unit (s := S512x256) off S128x256.size h).toLoadRect (X c))
        (bM.view.readAt (Elt F) (Rect.unit (s := S256x512) ![0, 0] S256x512.size inb_S256x512_S256x512_0_0).toLoadRect (Y c)))
      Finset.univ i = PP X Y c i := by
  subst e eA
  intro i hi
  have hq := mem_quarter.1 hi
  set j : S128x512.Idx := ix2 (⟨(i 0).val % 128, Nat.mod_lt _ (by decide)⟩ : Fin 128) (i 1 : Fin 512) with hj
  have he : (accM.access (Rect.unit (s := S512x512) ![128 * q.val, 0] S128x512.size hA)).emb j = i := by
    show (Rect.unit (s := S512x512) ![128 * q.val, 0] S128x512.size hA).emb j = i
    funext a; apply Fin.ext; rw [Rect.emb_apply]
    match a with
    | ⟨0, _⟩ => show 128 * q.val + 1 * ((i 0).val % 128) = (i 0).val; omega
    | ⟨1, _⟩ => show 0 + 1 * (i 1).val = (i 1).val; omega
  rw [← he, View.write_emb_of_mem _ _ (Finset.mem_univ _), he]
  show k0_pay1 _ _ j = k0_pay1 _ _ j
  congr 2
  · funext l
    unfold rowsOf
    show X c _ = X c _
    congr 1
    funext a; apply Fin.ext
    match a with
    | ⟨0, _⟩ => show 128 * q.val + 1 * (l 0).val = 128 * ((i 0).val / 128) + (l 0).val; omega
    | ⟨1, _⟩ => show 0 + 1 * (l 1).val = (l 1).val; omega
  · funext l
    show Y c _ = Y c _
    congr 1
    funext a; apply Fin.ext
    match a with
    | ⟨0, _⟩ => show 0 + 1 * (l 0).val = (l 0).val; omega
    | ⟨1, _⟩ => show 0 + 1 * (l 1).val = (l 1).val; omega

end Cert.KernelIdeal.Gen

end
-- ==== Proof.Sched.lean ====
/- The protocol: which semaphore cells there are, what each pays when it is raised, what every device owes at launch and
   in which order waits and payments are ranked.

   Every device has 61 cells: the barrier, a send cell and a receive cell for each of its thirty transfers.  Each
   cell is used for one round.  A barrier unit from a peer hands over the places on that peer that the transfers to
   it write; a send cell hands the source back; a receive cell hands over the written rows. -/
module

public import proofs.«01_k».proof.Proof.Content
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

/-! ## The resource algebra -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A cell of a device: its barrier, or a transfer's send (`false`) or receive (`true`) semaphore. -/
abbrev Cl := Option (Bool × Tr)

def osem : Bool × Tr → SemLoc sig
  | (false, x) => .dma (sendSem x)
  | (true, x) => .dma (recvSem x)
def csem : Cl → SemLoc sig
  | none => .reg barS
  | some k => osem k

theorem osem_inj : Function.Injective osem := by decide +kernel
theorem osem_ne_bar (k : Bool × Tr) : osem k ≠ .reg barS := by
  rcases k with ⟨_ | _, x⟩ <;> exact fun h => by cases h
theorem csem_inj : Function.Injective csem := by
  intro a b h
  match a, b with
  | none, none => rfl
  | none, some k => exact absurd h.symm (osem_ne_bar k)
  | some k, none => exact absurd h (osem_ne_bar k)
  | some k, some k' => exact congrArg some (osem_inj h)

abbrev kcell (ck : Dev nD × Cl) : GSem nD τ sig := ((ck.1 : Thread nD τ), csem ck.2)
abbrev barCell (c : Dev nD) : GSem nD τ sig := ((c : Thread nD τ), .reg barS)
abbrev sendCell (c : Dev nD) (x : Tr) : GSem nD τ sig := ((c : Thread nD τ), .dma (sendSem x))
abbrev recvCell (c : Dev nD) (x : Tr) : GSem nD τ sig := ((c : Thread nD τ), .dma (recvSem x))

theorem kcell_inj : Function.Injective kcell := by
  rintro ⟨c, k⟩ ⟨c', k'⟩ h
  obtain ⟨h1, h2⟩ := Prod.mk.inj h
  have hc : c = c' := congrArg Prod.fst h1
  exact Prod.ext hc (csem_inj h2)

open Classical in
/-- The cell a semaphore is. -/
def kOf (s : SemLoc sig) : Option Cl := if h : ∃ k, csem k = s then some h.choose else none

theorem kOf_csem (k : Cl) : kOf (csem k) = some k := by
  have h : ∃ k', csem k' = csem k := ⟨k, rfl⟩
  unfold kOf; rw [dif_pos h]; exact congrArg some (csem_inj h.choose_spec)
theorem kOf_bar : kOf (.reg barS) = some none := kOf_csem none
theorem kOf_send (x : Tr) : kOf (.dma (sendSem x)) = some (some (false, x)) := kOf_csem (some (false, x))
theorem kOf_recv (x : Tr) : kOf (.dma (recvSem x)) = some (some (true, x)) := kOf_csem (some (true, x))
theorem kOf_none {s : SemLoc sig} (h : ∀ k, csem k ≠ s) : kOf s = none := dif_neg fun ⟨k, hk⟩ => h k hk

/-- The credit of one transfer. -/
abbrev N : ℕ := (accM.slice (Rect.unit (s := S512x512) (k0_off13 0) S32x512.size (k0_off13_inb 0)) (fun _ => rfl)).view.dmaCredit
theorem N_pos : 0 < N := View.dmaCredit_pos _ (by decide)
theorem dst_credit (c : Dev nD) (x : Tr) : (dstM c x).view.dmaCredit = N := by cases x <;> rfl
theorem src_credit (c : Dev nD) (x : Tr) : (srcM c x).view.dmaCredit = N := by cases x <;> rfl

/-! ## The payloads -/

variable (X : Dev nD → Vec F S512x256 .f32) (Y : Dev nD → Vec F S256x512 .f32)

/-- The share of its source a transfer reads at. -/
def shareOf : Tr → PosShare TreeShare
  | .A _ _ => fullShare
  | .B _ => fullShare
  | .GB ob => shareTokN fullShare ob.val
  | .GA0 o => shareTokN fullShare (3 + o.val)
  | .GA o _ => shareTokN fullShare o.val

/-- The source of a transfer of `c`, holding what is sent. -/
def srcP (c : Dev nD) (x : Tr) : sProp 𝕄 :=
  (srcM c x).view.loc (c : Thread nD τ) ↦[(srcM c x).view.set]{shareOf x} srcC X Y c x

/-- The destination on `c'` of the transfer `x` that `c` sends there, written. -/
def landQ (c c' : Dev nD) (x : Tr) : sProp 𝕄 :=
  (dstM c x).view.loc (c' : Thread nD τ) ↦[(dstM c x).view.set]{fullShare} landC X Y c x
/-- What arrives at `c` by the transfer `x`. -/
def landP (c : Dev nD) (x : Tr) : sProp 𝕄 := landQ X Y (px c x) c x

/-- The destination on its peer of the transfer `x` of `c`, holding anything. -/
def anyP (c : Dev nD) (x : Tr) : sProp 𝕄 :=
  iprop(∃ f : Buf (Elt F) ((dstM c x).view.loc (px c x : Thread nD τ)),
    (dstM c x).view.loc (px c x : Thread nD τ) ↦[(dstM c x).view.set]{fullShare} f)
/-- What the barrier unit from peer `i` hands `c`: the destinations of the transfers to that peer. -/
def barP (c : Dev nD) (i : Fin 6) : sProp 𝕄 := bigSep (Finset.univ.filter fun x => mi x = i) (fun x => anyP (F := F) c x)

/-- The protocol. -/
def sch : Rounds.Schedule (GSem nD τ sig) (Fin 6) 𝕄 where
  duties g r := if r = 0 ∧ g.1.2 = .tc then (match kOf g.2 with | some none => Finset.univ | some (some _) => {0} | none => ∅) else ∅
  unitless _ := False
  amount g _ _ := match kOf g.2 with | some none => 1 | _ => N
  payload g _ d := match kOf g.2 with
    | some none => barP g.1.1 d
    | some (some (false, x)) => srcP X Y g.1.1 x
    | some (some (true, x)) => landP X Y g.1.1 x
    | none => iprop(emp)
  amount_pos g _ _ _ := by
    split
    · exact Nat.one_pos
    · exact N_pos

instance sch_payload_storable (g : GSem nD τ sig) (r : ℕ) (d : Fin 6) : BI.Storable (upEmb : UEmb _ 𝕄) ((sch X Y).payload g r d) := by
  show BI.Storable upEmb (match kOf g.2 with
    | some none => barP g.1.1 d
    | some (some (false, x)) => srcP X Y g.1.1 x
    | some (some (true, x)) => landP X Y g.1.1 x
    | none => iprop(emp))
  unfold barP anyP srcP landP landQ
  split <;> infer_instance

section Sched
variable (c : Dev nD) (x : Tr)

theorem duties_bar : (sch X Y).duties (barCell c) 0 = Finset.univ := by dsimp only [sch]; rw [if_pos ⟨rfl, rfl⟩, kOf_bar]
theorem duties_send : (sch X Y).duties (sendCell c x) 0 = {0} := by dsimp only [sch]; rw [if_pos ⟨rfl, rfl⟩, kOf_send]
theorem duties_recv : (sch X Y).duties (recvCell c x) 0 = {0} := by dsimp only [sch]; rw [if_pos ⟨rfl, rfl⟩, kOf_recv]
theorem duties_later (g : GSem nD τ sig) : ∀ r, 1 ≤ r → (sch X Y).duties g r = ∅ :=
  fun r hr => by dsimp only [sch]; rw [if_neg fun h => by omega]

theorem amount_bar (d : Fin 6) : (sch X Y).amount (barCell c) 0 d = 1 := by dsimp only [sch]; rw [kOf_bar]
theorem amount_send (d : Fin 6) : (sch X Y).amount (sendCell c x) 0 d = N := by dsimp only [sch]; rw [kOf_send]
theorem amount_recv (d : Fin 6) : (sch X Y).amount (recvCell c x) 0 d = N := by dsimp only [sch]; rw [kOf_recv]

theorem expect_bar : (sch X Y).expect (barCell c) 0 = 6 := by
  unfold Schedule.expect Schedule.amountOf
  rw [duties_bar, Finset.sum_congr rfl fun d _ => amount_bar X Y c d, Finset.sum_const, Finset.card_univ, Fintype.card_fin, smul_eq_mul]
theorem expect_send : (sch X Y).expect (sendCell c x) 0 = N := by
  unfold Schedule.expect Schedule.amountOf; rw [duties_send, Finset.sum_singleton, amount_send]
theorem expect_recv : (sch X Y).expect (recvCell c x) 0 = N := by
  unfold Schedule.expect Schedule.amountOf; rw [duties_recv, Finset.sum_singleton, amount_recv]

theorem payload_bar (d : Fin 6) : (sch X Y).payload (barCell c) 0 d = barP c d := by dsimp only [sch]; rw [kOf_bar]
theorem payload_send (d : Fin 6) : (sch X Y).payload (sendCell c x) 0 d = srcP X Y c x := by dsimp only [sch]; rw [kOf_send]
theorem payload_recv (d : Fin 6) : (sch X Y).payload (recvCell c x) 0 d = landP X Y c x := by dsimp only [sch]; rw [kOf_recv]

theorem rest_send : bigSep ((sch X Y).duties (sendCell c x) 0 \ ∅) (fun d => (sch X Y).payload (sendCell c x) 0 d) = srcP X Y c x := by
  rw [Finset.sdiff_empty, duties_send, bigSep_singleton, payload_send]
theorem rest_recv : bigSep ((sch X Y).duties (recvCell c x) 0 \ ∅) (fun d => (sch X Y).payload (recvCell c x) 0 d) = landP X Y c x := by
  rw [Finset.sdiff_empty, duties_recv, bigSep_singleton, payload_recv]

/-- A family over all of `I`, grouped by the values of a map. -/
theorem bigSep_group {M : Type} [URA M] {I J : Type} [Fintype I] [DecidableEq I] [Fintype J] [DecidableEq J] (f : I → J) (Φ : I → sProp M) :
    bigSep Finset.univ (fun j => bigSep (Finset.univ.filter fun x => f x = j) Φ) = bigSep Finset.univ Φ := by
  have key : ∀ s : Finset J, bigSep s (fun j => bigSep (Finset.univ.filter fun x => f x = j) Φ)
      = bigSep (Finset.univ.filter fun x => f x ∈ s) Φ := by
    intro s
    induction s using Finset.induction_on with
    | empty =>
      rw [bigSep_empty, show (Finset.univ.filter fun x => f x ∈ (∅ : Finset J)) = ∅ from by ext x; simp, bigSep_empty]
    | insert j s hj ih =>
      rw [bigSep_insert hj, ih, ← bigSep_union]
      · congr 1; ext x; simp
      · exact Finset.disjoint_left.2 fun x hx hx' => hj ((Finset.mem_filter.1 hx).2 ▸ (Finset.mem_filter.1 hx').2)
  rw [key]; congr 1; ext x; simp

/-- All six barrier units together hand over the destinations of all thirty transfers. -/
theorem bar_all : bigSep Finset.univ (fun i => barP (F := F) c i) = bigSep Finset.univ (fun x => anyP (F := F) c x) := by
  unfold barP
  exact bigSep_group mi _
theorem rest_bar : bigSep ((sch X Y).duties (barCell c) 0 \ ∅) (fun d => (sch X Y).payload (barCell c) 0 d)
    = bigSep Finset.univ (fun x => anyP (F := F) c x) := by
  rw [Finset.sdiff_empty, duties_bar, ← bar_all]
  exact bigSep_congr fun d _ => payload_bar X Y c d

end Sched

/-! ## What a device owes, and the ranks -/

/-- The credits of the listed transfers, owed to their receivers. -/
def owedT (c : Dev nD) : List Tr → CellTallies nD τ sig Unit
  | [] => 0
  | x :: xs => owedT c xs + tallyAt (recvCell (px c x) x) () N
/-- A unit to each of the listed peers' barriers, and all the transfers. -/
def owedB (c : Dev nD) : List (Fin 6) → CellTallies nD τ sig Unit
  | [] => owedT c drainAll
  | i :: is => owedB c is + tallyAt (barCell (pr c i)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The rank of a transfer's arrival: the order of the phases. -/
def lvl : Tr → ℕ
  | .A _ _ => 2
  | .B _ => 3
  | .GB _ => 4
  | .GA0 _ => 5
  | .GA _ _ => 5
def lv (g : GSem nD τ sig) (_ : Unit) : ℕ := match kOf g.2 with
  | some none => 1
  | some (some (true, x)) => lvl x
  | _ => 0

theorem lv_bar (c : Dev nD) (u : Unit) : lv (barCell c) u = 1 := by unfold lv; rw [kOf_bar]
theorem lv_recv (c : Dev nD) (x : Tr) (u : Unit) : lv (recvCell c x) u = lvl x := by unfold lv; rw [kOf_recv]
theorem lv_send (c : Dev nD) (x : Tr) (u : Unit) : lv (sendCell c x) u = 0 := by unfold lv; rw [kOf_send]

theorem owedT_pos {c : Dev nD} {ts : List Tr} {g : GSem nD τ sig} {u : Unit} (h : 0 < owedT c ts g u) :
    ∃ x ∈ ts, g = recvCell (px c x) x := by
  induction ts with
  | nil => exact absurd h (Nat.lt_irrefl 0)
  | cons x xs ih =>
    unfold owedT at h
    rw [Pi.add_apply, Finsupp.add_apply, tallyAt_apply] at h
    by_cases hg : g = recvCell (px c x) x ∧ u = ()
    · exact ⟨x, List.mem_cons_self, hg.1⟩
    · rw [if_neg hg] at h
      obtain ⟨y, hy, e⟩ := ih h
      exact ⟨y, List.mem_cons_of_mem _ hy, e⟩

theorem owedB_pos {c : Dev nD} {is : List (Fin 6)} {g : GSem nD τ sig} {u : Unit} (h : 0 < owedB c is g u) :
    (∃ x, g = recvCell (px c x) x) ∨ ∃ i, g = barCell (pr c i) := by
  induction is with
  | nil => obtain ⟨x, -, e⟩ := owedT_pos h; exact .inl ⟨x, e⟩
  | cons i is ih =>
    unfold owedB at h
    rw [Pi.add_apply, Finsupp.add_apply, tallyAt_apply] at h
    by_cases hg : g = barCell (pr c i) ∧ u = ()
    · exact .inr ⟨i, hg.1⟩
    · rw [if_neg hg] at h
      exact ih h

theorem lvl_pos (x : Tr) : 2 ≤ lvl x := by revert x; decide

/-- A device may wait for an arrival while it owes only later ones, -/
theorem mayWait_recv (c : Dev nD) (x : Tr) (ts : List Tr) (h : ∀ y ∈ ts, lvl x < lvl y) :
    (levAts L lv : sProp 𝕄) ⊢ MayWait (c : Thread nD τ) (.dma (recvSem x)) () (owedT c ts) :=
  MayOwe.of_cut (L := L) (lev := lv) (lvl x) (fun p hp => by rw [Finset.mem_singleton.mp hp, L_tc]; exact Finset.mem_singleton_self _)
    (fun g u hg => by obtain ⟨y, -, rfl⟩ := owedT_pos hg; rw [L_tc]; exact Finset.mem_singleton_self _)
    (fun p hp => by rw [Finset.mem_singleton.mp hp]; exact (lv_recv c x _).le)
    (fun g u hg => by obtain ⟨y, hy, rfl⟩ := owedT_pos hg; rw [lv_recv]; exact h y hy)

/-- at its barrier while it owes transfers, -/
theorem mayWait_bar (c : Dev nD) (ts : List Tr) : (levAts L lv : sProp 𝕄) ⊢ MayWait (c : Thread nD τ) (.reg barS) () (owedT c ts) :=
  MayOwe.of_cut (L := L) (lev := lv) 1 (fun p hp => by rw [Finset.mem_singleton.mp hp, L_tc]; exact Finset.mem_singleton_self _)
    (fun g u hg => by obtain ⟨y, -, rfl⟩ := owedT_pos hg; rw [L_tc]; exact Finset.mem_singleton_self _)
    (fun p hp => by rw [Finset.mem_singleton.mp hp]; exact (lv_bar c _).le)
    (fun g u hg => by obtain ⟨y, hy, rfl⟩ := owedT_pos hg; rw [lv_recv]; exact lvl_pos y)

/-- and on a staging semaphore while it owes anything of the kernel's. -/
theorem mayWait_stage (c : Dev nD) (q : DmaSem sig) (hq : ∀ k, csem k ≠ .dma q) (is : List (Fin 6)) :
    (levAts L lv : sProp 𝕄) ⊢ MayWait (c : Thread nD τ) (.dma q) () (owedB c is) :=
  MayOwe.of_cut (L := L) (lev := lv) 0 (fun p hp => by rw [Finset.mem_singleton.mp hp, L_tc]; exact Finset.mem_singleton_self _)
    (fun g u hg => by
      rcases owedB_pos hg with ⟨y, rfl⟩ | ⟨i, rfl⟩ <;> (rw [L_tc]; exact Finset.mem_singleton_self _))
    (fun p hp => by rw [Finset.mem_singleton.mp hp]; unfold lv; rw [kOf_none hq])
    (fun g u hg => by
      rcases owedB_pos hg with ⟨y, rfl⟩ | ⟨i, rfl⟩
      · rw [lv_recv]; exact lt_of_lt_of_le Nat.zero_lt_two (lvl_pos y)
      · rw [lv_bar]; exact Nat.one_pos)

end Cert.KernelIdeal.Gen

end
-- ==== Proof.Steps.lean ====
/- The kernel's lists of effects: starting a list of transfers, waiting for a list of arrivals, waiting for a list of
   sources, signalling a list of barriers — each proved by induction on the list. -/
module

public import proofs.«01_k».proof.Proof.Sched
public import Idealize.ShloMosaic.Lib.Pipeline.BigSepL

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Vec F S512x256 .f32) (Y : Dev nD → Vec F S256x512 .f32)

/-- A program of device `c`, run to a condition on its result. -/
abbrev wpK (c : Dev nD) {α : Type} (p : KP F α) (Q : α → sProp 𝕄) : sProp 𝕄 :=
  wp frame (wpE (defs₀ (F := F)) 𝒱₀ (c : Thread nD τ) none) Set.univ p Q

/-- Every cell's invariant, and that its round 0 is reached. -/
def recs (K : Dev nD × Cl → ℕ) : sProp 𝕄 :=
  bigSep Finset.univ fun ck => iprop(cellInv ER (sch X Y) (K ck) (kcell ck) ∗ reached ER (kcell ck) 0)

instance recs_persistent (K : Dev nD × Cl → ℕ) : BI.Persistent (recs X Y K) := by unfold recs; infer_instance

theorem recs_at (K : Dev nD × Cl → ℕ) (ck : Dev nD × Cl) :
    recs X Y K ⊢ iprop(cellInv ER (sch X Y) (K ck) (kcell ck) ∗ reached ER (kcell ck) 0) := bigSep_elim (Finset.mem_univ ck)

/-- What starting a transfer needs: the right to pay its two cells, and the destination. -/
def tokS (c : Dev nD) (x : Tr) : sProp 𝕄 :=
  iprop(dutyTok ER (sendCell c x) 0 0 ∗ dutyTok ER (recvCell (px c x) x) 0 0 ∗ anyP (F := F) c x)
/-- The credit a started transfer leaves at its send cell, and the owner's place at that cell. -/
def credS (c : Dev nD) (x : Tr) : sProp 𝕄 := cred (tallyAt (sendCell c x) () N)
def posS (c : Dev nD) (x : Tr) : sProp 𝕄 := atPos ER (sendCell c x) 0 ∅ 0
/-- What waiting for an arrival needs. -/
def posR (c : Dev nD) (x : Tr) : sProp 𝕄 := iprop(atPos ER (recvCell c x) 0 ∅ 0 ∗ cred (tallyAt (recvCell c x) () N))
/-- What device `c` owes after the transfers still to be started. -/
def owe (c : Dev nD) (ts : List Tr) : sProp 𝕄 := iprop(∃ W, owes (c : Thread nD τ) (owedT c ts) W)

theorem landQ_px (c : Dev nD) (x : Tr) : landP X Y (px c x) x = landQ X Y c (px c x) x := by
  unfold landP; rw [px_px]

theorem send_step (K : Dev nD × Cl → ℕ) (c : Dev nD) (x : Tr) (ts : List Tr) (n : Dev nD) (hn : n = px c x)
    {hsc : (dstM c x).view.ref.isScScratch = false} {hsrc : (srcM c x).view.WordExact} {hdst : (dstM c x).view.WordExact}
    {hsem : DmaTarget.Typed .vmem (.dma (recvSem x)) (.remote (Dev.tc n : Thread nD τ) (dstM c x) (.dma (sendSem x)) hsc)}
    {k : PUnit → KP F PUnit} {Q : PUnit → sProp 𝕄} (W : Waits sig Unit) :
    iprop(recs X Y K ∗ owes (c : Thread nD τ) (owedT c (x :: ts)) W ∗ tokS c x ∗ srcP X Y c x)
      ⊢ iprop(((credS c x ∗ owes (c : Thread nD τ) (owedT c ts) W) -∗ wpK c (k ⟨⟩) Q)
          -∗ wpK c (.op (.enqueueDma (srcM c x) (.remote (Dev.tc n : Thread nD τ) (dstM c x) (.dma (sendSem x)) hsc) (.dma (recvSem x)) hsrc hdst hsem) k) Q) := by
  subst hn
  unfold tokS srcP anyP credS
  iintro ⟨#HR, HO, ⟨Ht1, Ht2, ⟨%fd, Hd⟩⟩, Hs⟩
  ihave #Hs1 := (recs_at X Y K (c, some (false, x))) $$ HR
  ihave #Hr1 := (recs_at X Y K (px c x, some (true, x))) $$ HR
  icases Hs1 with ⟨#Hs1, #Hs2⟩
  icases Hr1 with ⟨#Hr1, #Hr2⟩
  iapply (Rounds.wp_send_pointsTo 𝒱₀ ER (sch X Y) (c : Thread nD τ) none (κ₁ := K (c, some (false, x))) (κ₂ := K (px c x, some (true, x)))
    (r₁ := 0) (r₂ := 0) (d₁ := 0) (d₂ := 0) (fd := fd) (fs := srcC X Y c x)
    (by rw [duties_send]; exact Finset.mem_singleton_self _) (by rw [duties_recv]; exact Finset.mem_singleton_self _)
    () () N (show (dstM c x).view.amount (SemLoc.dma (recvSem x)) = N from dst_credit c x) (amount_send X Y c x 0) (amount_recv X Y (px c x) x 0) (owedT c ts) rfl (W := W)
    (by rw [payload_send]; exact BI.Entails.refl _)
    (by rw [payload_recv, landQ_px]; unfold landQ; exact Entails.of_eq (pointsTo_congr (landing X Y c x fd)))) $$ [HO Ht1 Ht2 Hd Hs]
  isplitr; · iexact Hs1
  isplitr; · iexact Hr1
  isplitl [Hs]; · iexact Hs
  isplitl [Hd]; · iexact Hd
  isplitl [HO]; · iexact HO
  isplitl [Ht1]; · iexact Ht1
  isplitr; · iexact Hs2
  isplitl [Ht2]; · iexact Ht2
  iexact Hr2

/-- Starting a list of transfers. -/
theorem sends_spec (K : Dev nD × Cl → ℕ) (c : Dev nD) (ts : List Tr) (Q : PUnit → sProp 𝕄) : ∀ xs : List Tr,
    iprop(recs X Y K ∗ owe c (xs ++ ts) ∗ bigSepL xs (tokS c) ∗ bigSepL xs (srcP X Y c))
      ⊢ iprop(((owe c ts ∗ bigSepL xs (credS c)) -∗ Q ⟨⟩) -∗ wpK c (sends c xs) Q)
  | [] => by
    unfold sends
    rw [Prog.pure_eq_ret, wpK, wp_ret]
    iintro ⟨-, HO, -, -⟩ HQ
    imodintro
    iapply HQ
    isplitl [HO]; · iexact HO
    rw [bigSepL_nil]; iempintro
  | x :: xs => by
    rw [bigSepL_cons', bigSepL_cons', bigSepL_cons']
    unfold sends
    simp only [Prog.lift, Prog.bind_op, Prog.bind_ret]
    iintro ⟨#HR, HO, ⟨Hx, Hxs⟩, ⟨Hy, Hys⟩⟩ HQ
    rw [List.cons_append]
    unfold owe
    icases HO with ⟨%W, HO⟩
    iapply (send_step X Y K c x (xs ++ ts) (tgt c x) (tgt_eq c x) W) $$ [HO Hx Hy]
    · isplitr; · iexact HR
      isplitl [HO]; · iexact HO
      isplitl [Hx] <;> iassumption
    iintro ⟨Hc, HO⟩
    iapply (sends_spec K c ts Q xs) $$ [HO Hxs Hys]
    · isplitr; · iexact HR
      isplitl [HO]; · unfold owe; iexists W; iexact HO
      isplitl [Hxs] <;> iassumption
    unfold owe
    iintro ⟨HO, Hcs⟩
    iapply HQ
    isplitl [HO]; · iexact HO
    isplitl [Hc] <;> iassumption

/-- Waiting for a list of arrivals, while only later ones are owed. -/
theorem recvs_spec (K : Dev nD × Cl → ℕ) (c : Dev nD) (ts : List Tr) (Q : PUnit → sProp 𝕄) : ∀ xs : List Tr,
    (∀ x ∈ xs, ∀ y ∈ ts, lvl x < lvl y) →
    iprop(recs X Y K ∗ levAts L lv ∗ owe c ts ∗ bigSepL xs (posR c))
      ⊢ iprop(((owe c ts ∗ bigSepL xs (landP X Y c) ∗ bigSepL xs (fun x => semVal (recvCell c x) 0)) -∗ Q ⟨⟩) -∗ wpK c (recvs c xs) Q)
  | [], _ => by
    unfold recvs
    rw [Prog.pure_eq_ret, wpK, wp_ret]
    iintro ⟨-, -, HO, -⟩ HQ
    imodintro
    iapply HQ
    isplitl [HO]; · iexact HO
    rw [bigSepL_nil, bigSepL_nil]
    isplitr <;> iempintro
  | x :: xs, h => by
    rw [bigSepL_cons', bigSepL_cons', bigSepL_cons']
    unfold recvs
    simp only [Prog.lift, Prog.bind_op, Prog.bind_ret]
    unfold posR
    iintro ⟨#HR, #Hlev, HO, ⟨⟨Hat, Hc⟩, Hxs⟩⟩ HQ
    ihave #Hr1 := (recs_at X Y K (c, some (true, x))) $$ HR
    icases Hr1 with ⟨#Hr1, -⟩
    unfold owe
    icases HO with ⟨%W, HO⟩
    iapply (Rounds.wp_wait_rest_token 𝒱₀ ER (sch X Y) (c : Thread nD τ) none (κ := K (c, some (true, x)))
        (wpE_waitDma2_eq 𝒱₀ (c : Thread nD τ) none Set.univ) (Set.mem_univ _) () (O := owedT c ts) (W := W) (R := 0) (m := 0) (T := ∅)
        (by rw [Nat.zero_add, expect_recv]; exact dst_credit c x)) $$ [Hc HO Hat]
    · isplitr; · iexact Hr1
      isplitl [Hc]; · rw [dst_credit c x]; iexact Hc
      isplitl [HO]; · iexact HO
      isplitr; · iapply (mayWait_recv c x ts (h x List.mem_cons_self)); iexact Hlev
      iexact Hat
    iintro ⟨HO, Hat, -, Hpay⟩
    ihave Hp := (Entails.of_eq (rest_recv X Y c x)) $$ Hpay
    imod (Rounds.cell_close ER (sch X Y) (Set.mem_univ (K (c, some (true, x)))) (fun h => h) (R := 0 + 1) (duties_later X Y (recvCell c x))) $$ [Hat] with Hz
    · isplitr; · iexact Hr1
      iexact Hat
    iapply (recvs_spec K c ts Q xs (fun y hy => h y (List.mem_cons_of_mem _ hy))) $$ [HO Hxs]
    · isplitr; · iexact HR
      isplitr; · iexact Hlev
      isplitl [HO]; · unfold owe; iexists _; iexact HO
      unfold posR; iexact Hxs
    unfold owe
    iintro ⟨HO, Hps, Hzs⟩
    iapply HQ
    isplitl [HO]; · iexact HO
    isplitl [Hp Hps]
    · isplitl [Hp] <;> iassumption
    · isplitl [Hz] <;> iassumption

/-- Waiting for a list of sources, nothing owed any more. -/
theorem drains_spec (K : Dev nD × Cl → ℕ) (c : Dev nD) (Q : PUnit → sProp 𝕄) : ∀ xs : List Tr,
    iprop(recs X Y K ∗ owe c [] ∗ bigSepL xs (posS c) ∗ bigSepL xs (credS c))
      ⊢ iprop(((owe c [] ∗ bigSepL xs (srcP X Y c) ∗ bigSepL xs (fun x => semVal (sendCell c x) 0)) -∗ Q ⟨⟩) -∗ wpK c (drains c xs) Q)
  | [] => by
    unfold drains
    rw [Prog.pure_eq_ret, wpK, wp_ret]
    iintro ⟨-, HO, -⟩ HQ
    imodintro
    iapply HQ
    isplitl [HO]; · iexact HO
    rw [bigSepL_nil, bigSepL_nil]
    isplitr <;> iempintro
  | x :: xs => by
    rw [bigSepL_cons', bigSepL_cons', bigSepL_cons', bigSepL_cons']
    unfold drains
    simp only [Prog.lift, Prog.bind_op, Prog.bind_ret]
    unfold posS credS
    iintro ⟨#HR, HO, ⟨Hat, Hats⟩, ⟨Hc, Hcs⟩⟩ HQ
    ihave #Hr1 := (recs_at X Y K (c, some (false, x))) $$ HR
    icases Hr1 with ⟨#Hr1, -⟩
    unfold owe
    icases HO with ⟨%W, HO⟩
    iapply (Rounds.wp_wait_rest_token 𝒱₀ ER (sch X Y) (c : Thread nD τ) none (κ := K (c, some (false, x)))
        (wpE_waitDma2_eq 𝒱₀ (c : Thread nD τ) none Set.univ) (Set.mem_univ _) () (O := owedT c []) (W := W) (R := 0) (m := 0) (T := ∅)
        (by rw [Nat.zero_add, expect_send]; exact src_credit c x)) $$ [Hc HO Hat]
    · isplitr; · iexact Hr1
      isplitl [Hc]; · rw [src_credit c x]; iexact Hc
      isplitl [HO]; · iexact HO
      isplitr; · unfold owedT; rw [MayWait_zero]; iempintro
      iexact Hat
    iintro ⟨HO, Hat, -, Hpay⟩
    ihave Hp := (Entails.of_eq (rest_send X Y c x)) $$ Hpay
    imod (Rounds.cell_close ER (sch X Y) (Set.mem_univ (K (c, some (false, x)))) (fun h => h) (R := 0 + 1) (duties_later X Y (sendCell c x))) $$ [Hat] with Hz
    · isplitr; · iexact Hr1
      iexact Hat
    iapply (drains_spec K c Q xs) $$ [HO Hats Hcs]
    · isplitr; · iexact HR
      isplitl [HO]; · unfold owe; iexists _; iexact HO
      unfold posS credS; isplitl [Hats] <;> iassumption
    unfold owe
    iintro ⟨HO, Hps, Hzs⟩
    iapply HQ
    isplitl [HO]; · iexact HO
    isplitl [Hp Hps]
    · isplitl [Hp] <;> iassumption
    · isplitl [Hz] <;> iassumption

/-- What signalling a peer's barrier needs: the right to pay it and what the unit hands over. -/
def tokB (c : Dev nD) (i : Fin 6) : sProp 𝕄 := iprop(dutyTok ER (barCell (pr c i)) 0 i ∗ barP (F := F) (pr c i) i)

theorem signal_step (K : Dev nD × Cl → ℕ) (c : Dev nD) (i : Fin 6) (is : List (Fin 6)) (n : Dev nD) (hn : n = pr c i)
    {k : PUnit → KP F PUnit} {Q : PUnit → sProp 𝕄} (W : Waits sig Unit) :
    iprop(recs X Y K ∗ owes (c : Thread nD τ) (owedB c (i :: is)) W ∗ tokB c i)
      ⊢ iprop((owes (c : Thread nD τ) (owedB c is) W -∗ wpK c (k ⟨⟩) Q)
          -∗ wpK c (.op (.semSignal (Dev.tc n : Thread nD τ) barS 1) k) Q) := by
  subst hn
  unfold tokB
  iintro ⟨#HR, HO, Ht, Hp⟩
  ihave #Hr1 := (recs_at X Y K (pr c i, none)) $$ HR
  icases Hr1 with ⟨#Hr1, #Hr2⟩
  iapply (Rounds.wp_signal 𝒱₀ ER (sch X Y) (c : Thread nD τ) none (dst := (pr c i : Thread nD τ)) (κ := K (pr c i, none))
      (d := i) (by rw [duties_bar]; exact Finset.mem_univ _) (amount_bar X Y (pr c i) i) () (owedB c is) rfl (W := W)) $$ [HO Ht Hp]
  isplitr; · iexact Hr1
  isplitl [HO]; · iexact HO
  isplitl [Ht]; · iexact Ht
  isplitl [Hp]; · rw [payload_bar]; iexact Hp
  iexact Hr2

/-- Signalling a list of barriers. -/
theorem signals_spec (K : Dev nD × Cl → ℕ) (c : Dev nD) (Q : PUnit → sProp 𝕄) : ∀ (is : List (Fin 6)) (W : Waits sig Unit),
    iprop(recs X Y K ∗ owes (c : Thread nD τ) (owedB c is) W ∗ bigSepL is (tokB c))
      ⊢ iprop((owe c drainAll -∗ Q ⟨⟩) -∗ wpK c (signals c is) Q)
  | [], W => by
    unfold signals
    rw [Prog.pure_eq_ret, wpK, wp_ret]
    iintro ⟨-, HO, -⟩ HQ
    imodintro
    iapply HQ
    unfold owe owedB; iexists W; iexact HO
  | i :: is, W => by
    rw [bigSepL_cons']
    unfold signals
    simp only [semSignalWord, Prog.lift, Prog.bind_op, Prog.bind_ret]
    iintro ⟨#HR, HO, ⟨Hx, Hxs⟩⟩ HQ
    iapply (signal_step X Y K c i is (btgt c i) (btgt_eq c i) W) $$ [HO Hx]
    · isplitr; · iexact HR
      isplitl [HO] <;> iassumption
    iintro HO
    iapply (signals_spec K c Q is W) $$ [HO Hxs]
    · isplitr; · iexact HR
      isplitl [HO] <;> iassumption
    iexact HQ

/-- The barrier wait: the destinations of all transfers come with it. -/
theorem bar_spec (K : Dev nD × Cl → ℕ) (c : Dev nD) (ts : List Tr) (Q : PUnit → sProp 𝕄) :
    iprop(recs X Y K ∗ levAts L lv ∗ owe c ts ∗ atPos ER (barCell c) 0 ∅ 0 ∗ cred (tallyAt (barCell c) () 6))
      ⊢ iprop(((owe c ts ∗ bigSep Finset.univ (fun x => anyP (F := F) c x) ∗ semVal (barCell c) 0) -∗ Q ⟨⟩)
          -∗ wpK c (semWaitWord barS 6#32) Q) := by
  simp only [semWaitWord, Prog.lift]
  iintro ⟨#HR, #Hlev, HO, Hat, Hc⟩ HQ
  ihave #Hr1 := (recs_at X Y K (c, none)) $$ HR
  icases Hr1 with ⟨#Hr1, -⟩
  unfold owe
  icases HO with ⟨%W, HO⟩
  iapply (Rounds.wp_wait_rest_token 𝒱₀ ER (sch X Y) (c : Thread nD τ) none (κ := K (c, none))
      (wpE_semWait_eq 𝒱₀ (c : Thread nD τ) none Set.univ) (Set.mem_univ _) () (O := owedT c ts) (W := W) (R := 0) (m := 0) (T := ∅)
      (by rw [expect_bar]; decide)) $$ [Hc HO Hat]
  · isplitr; · iexact Hr1
    isplitl [Hc]; · iexact Hc
    isplitl [HO]; · iexact HO
    isplitr; · iapply (mayWait_bar c ts); iexact Hlev
    iexact Hat
  iintro ⟨HO, Hat, -, Hpay⟩
  ihave Hp := (Entails.of_eq (rest_bar X Y c)) $$ Hpay
  imod (Rounds.cell_close ER (sch X Y) (Set.mem_univ (K (c, none))) (fun h => h) (R := 0 + 1) (duties_later X Y (barCell c))) $$ [Hat] with Hz
  · isplitr; · iexact Hr1
    iexact Hat
  rw [wp_ret]; imodintro
  iapply HQ
  isplitl [HO]; · iexists _; iexact HO
  isplitl [Hp] <;> iassumption

end Cert.KernelIdeal.Gen

end
-- ==== Proof.Blocks.lean ====
/- The three arithmetic blocks of the kernel: a quarter of the product, and the two sums. -/
module

public import proofs.«01_k».proof.Proof.Steps

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop)

variable {F : FTy → Type} [FloatOps F]

local notation "𝕄" => MT nD τ sig Unit (Elt F) ℕ UU ℕ

variable (X : Dev nD → Vec F S512x256 .f32) (Y : Dev nD → Vec F S256x512 .f32)

/-- Part `S` of device `c`'s accumulator, result, first and second receive buffer, holding `f` at share `q`. -/
def accP (c : Dev nD) (S : Finset S512x512.Idx) (f : Vec F S512x512 .f32) : sProp 𝕄 := accM.view.loc (c : Thread nD τ) ↦[S]{fullShare} f
def outP (c : Dev nD) (S : Finset S512x512.Idx) (q : PosShare TreeShare) (f : Vec F S512x512 .f32) : sProp 𝕄 :=
  outM.view.loc (c : Thread nD τ) ↦[S]{q} f
def rAP (c : Dev nD) (S : Finset S3x128x512.Idx) (f : Vec F S3x128x512 .f32) : sProp 𝕄 := rAM.view.loc (c : Thread nD τ) ↦[S]{fullShare} f
def rBP (c : Dev nD) (S : Finset S3x32x512.Idx) (f : Vec F S3x32x512 .f32) : sProp 𝕄 := rBM.view.loc (c : Thread nD τ) ↦[S]{fullShare} f
/-- The two operands, staged. -/
def insP (c : Dev nD) : sProp 𝕄 :=
  iprop((aM.view.loc (c : Thread nD τ) ↦{fullShare} X c) ∗ (bM.view.loc (c : Thread nD τ) ↦{fullShare} Y c))

/-! ## The transfers' ends, as parts of these buffers -/

theorem landP_A (c : Dev nD) (o : Fin 3) (oc : Fin 4) : landP X Y c (.A o oc) = rAP c (boxA o (qb c oc)) (RA X Y c) := by
  show (rAM.view.loc (c : Thread nD τ) ↦[(dstM (px c (.A o oc)) (.A o oc)).view.set]{fullShare} RA X Y (px (px c (.A o oc)) (.A o oc)) : sProp 𝕄) = _
  have e := dstA_set (px c (.A o oc)) o oc
  rw [qb_A] at e
  rw [px_px]; erw [e]; rfl
theorem landP_B (c : Dev nD) (ob : Fin 3) : landP X Y c (.B ob) = rBP c (boxB ob) (RB X Y c) := by
  show (rBM.view.loc (c : Thread nD τ) ↦[(dstM (px c (.B ob)) (.B ob)).view.set]{fullShare} RB X Y (px (px c (.B ob)) (.B ob)) : sProp 𝕄) = _
  rw [px_px]; erw [dstB_set]; rfl
theorem landP_GB (c : Dev nD) (ob : Fin 3) : landP X Y c (.GB ob) = outP c (chunk (kk c 0 (up ob))) fullShare (OO X Y) := by
  show (outM.view.loc (c : Thread nD τ) ↦[(dstM (px c (.GB ob)) (.GB ob)).view.set]{fullShare} OO X Y : sProp 𝕄) = _
  have e : (dstM (px c (.GB ob)) (.GB ob)).view.set = chunk (kk (px c (.GB ob)) 0 0) := out_set _ (off13_eq _)
  erw [e]; rw [kk_GB]; rfl
theorem landP_GA0 (c : Dev nD) (o : Fin 3) : landP X Y c (.GA0 o) = outP c (chunk (kk c (up o) 0)) fullShare (OO X Y) := by
  show (outM.view.loc (c : Thread nD τ) ↦[(dstM (px c (.GA0 o)) (.GA0 o)).view.set]{fullShare} OO X Y : sProp 𝕄) = _
  have e : (dstM (px c (.GA0 o)) (.GA0 o)).view.set = chunk (kk (px c (.GA0 o)) 0 0) := out_set _ (off13_eq _)
  erw [e]; rw [kk_GA0]; rfl
theorem landP_GA (c : Dev nD) (o ob : Fin 3) : landP X Y c (.GA o ob) = outP c (chunk (kk c (up o) (up ob))) fullShare (OO X Y) := by
  show (outM.view.loc (c : Thread nD τ) ↦[(dstM (px c (.GA o ob)) (.GA o ob)).view.set]{fullShare} OO X Y : sProp 𝕄) = _
  have e : (dstM (px c (.GA o ob)) (.GA o ob)).view.set = chunk (kk (px c (.GA o ob)) 0 (up ob)) := out_set _ (off11_eq _ ob)
  erw [e]; rw [kk_GA]; rfl

theorem srcP_A (c : Dev nD) (o : Fin 3) (oc : Fin 4) : srcP X Y c (.A o oc) = accP c (chunk (kk c (up o) oc)) (PP X Y c) := by
  show (accM.view.loc (c : Thread nD τ) ↦[(srcM c (.A o oc)).view.set]{fullShare} PP X Y c : sProp 𝕄) = _
  have e : (srcM c (.A o oc)).view.set = chunk (kk c (up o) oc) := acc_set _ (off4_eq c o oc)
  erw [e]; rfl
theorem srcP_B (c : Dev nD) (ob : Fin 3) : srcP X Y c (.B ob) = accP c (chunk (kk c 0 (up ob))) (S1 X Y c) := by
  show (accM.view.loc (c : Thread nD τ) ↦[(srcM c (.B ob)).view.set]{fullShare} S1 X Y c : sProp 𝕄) = _
  have e : (srcM c (.B ob)).view.set = chunk (kk c 0 (up ob)) := acc_set _ (off11_eq c ob)
  erw [e]; rfl
theorem srcP_GB (c : Dev nD) (ob : Fin 3) : srcP X Y c (.GB ob) = outP c (chunk (kk c 0 0)) (shareTokN fullShare ob.val) (OO X Y) := by
  show (outM.view.loc (c : Thread nD τ) ↦[(srcM c (.GB ob)).view.set]{_} OO X Y : sProp 𝕄) = _
  have e : (srcM c (.GB ob)).view.set = chunk (kk c 0 0) := out_set _ (off13_eq c)
  erw [e]; rfl
theorem srcP_GA0 (c : Dev nD) (o : Fin 3) : srcP X Y c (.GA0 o) = outP c (chunk (kk c 0 0)) (shareTokN fullShare (3 + o.val)) (OO X Y) := by
  show (outM.view.loc (c : Thread nD τ) ↦[(srcM c (.GA0 o)).view.set]{_} OO X Y : sProp 𝕄) = _
  have e : (srcM c (.GA0 o)).view.set = chunk (kk c 0 0) := out_set _ (off13_eq c)
  erw [e]; rfl
theorem srcP_GA (c : Dev nD) (o ob : Fin 3) : srcP X Y c (.GA o ob) = outP c (chunk (kk c 0 (up ob))) (shareTokN fullShare o.val) (OO X Y) := by
  show (outM.view.loc (c : Thread nD τ) ↦[(srcM c (.GA o ob)).view.set]{_} OO X Y : sProp 𝕄) = _
  have e : (srcM c (.GA o ob)).view.set = chunk (kk c 0 (up ob)) := out_set _ (off11_eq c ob)
  erw [e]; rfl

/-! ## What a load touches -/

theorem ld_acc {off : Fin 2 → ℕ} (inb : ∀ a, off a + S32x512.size a ≤ S512x512.size a) {k : Fin 16} (h : off = ![32 * k.val, 0]) :
    accM.view.setOn (Rect.unit (s := S512x512) off S32x512.size inb).toLoadRect.set ⊆ chunk k :=
  ((View.set_slice _ _).symm.trans (acc_set inb h)).subset
theorem ld_out {off : Fin 2 → ℕ} (inb : ∀ a, off a + S32x512.size a ≤ S512x512.size a) {k : Fin 16} (h : off = ![32 * k.val, 0]) :
    outM.view.setOn (Rect.unit (s := S512x512) off S32x512.size inb).toLoadRect.set ⊆ chunk k :=
  ((View.set_slice _ _).symm.trans (out_set inb h)).subset
theorem acc_q_set {off : Fin 2 → ℕ} (inb : ∀ a, off a + S128x512.size a ≤ S512x512.size a) {q : Fin 4} (h : off = ![128 * q.val, 0]) :
    (accM.access (Rect.unit (s := S512x512) off S128x512.size inb)).set = quarter q :=
  (View.set_slice_whole _ _).trans (set_quarter inb h)
theorem ld_acc_q {off : Fin 2 → ℕ} (inb : ∀ a, off a + S128x512.size a ≤ S512x512.size a) {q : Fin 4} (h : off = ![128 * q.val, 0]) :
    accM.view.setOn (Rect.unit (s := S512x512) off S128x512.size inb).toLoadRect.set ⊆ quarter q :=
  ((View.set_slice _ _).symm.trans (acc_q_set inb h)).subset
theorem rA_set {off : Fin 3 → ℕ} (inb : ∀ a, off a + S1x32x512.size a ≤ S3x128x512.size a) {o : Fin 3} {b : Fin 4}
    (h : off = ![o.val, 32 * b.val, 0]) : (rAM.access (Rect.unit (s := S3x128x512) off S1x32x512.size inb)).set = boxA o b :=
  (View.set_slice_whole _ _).trans (set_boxA inb h)
theorem rB_set {o : ℕ} (inb : ∀ a, (![o, 0, 0] : Fin 3 → ℕ) a + S1x32x512.size a ≤ S3x32x512.size a) {p : Fin 3} (h : o = p.val) :
    (rBM.access (Rect.unit (s := S3x32x512) ![o, 0, 0] S1x32x512.size inb)).set = boxB p :=
  (View.set_slice_whole _ _).trans (set_boxB inb h)
theorem ld_boxA {off : Fin 3 → ℕ} (inb : ∀ a, off a + S1x32x512.size a ≤ S3x128x512.size a) {o : Fin 3} {b : Fin 4}
    (h : off = ![o.val, 32 * b.val, 0]) : rAM.view.setOn (Rect.unit (s := S3x128x512) off S1x32x512.size inb).toLoadRect.set ⊆ boxA o b :=
  ((View.set_slice _ _).symm.trans (rA_set inb h)).subset
theorem ld_boxB {o : ℕ} (inb : ∀ a, (![o, 0, 0] : Fin 3 → ℕ) a + S1x32x512.size a ≤ S3x32x512.size a) {p : Fin 3} (h : o = p.val) :
    rBM.view.setOn (Rect.unit (s := S3x32x512) ![o, 0, 0] S1x32x512.size inb).toLoadRect.set ⊆ boxB p :=
  ((View.set_slice _ _).symm.trans (rB_set inb h)).subset

/-! ## The blocks -/

theorem prodQ_spec (c : Dev nD) {off offA : Fin 2 → ℕ} (h : ∀ a, off a + S128x256.size a ≤ S512x256.size a)
    (hA : ∀ a, offA a + S128x512.size a ≤ S512x512.size a) {q : Fin 4} (e : off = ![128 * q.val, 0]) (eA : offA = ![128 * q.val, 0])
    (Q : PUnit → sProp 𝕄) :
    iprop(insP X Y c ∗ ∃ f, accP c (quarter q) f)
      ⊢ iprop(((insP X Y c ∗ accP c (quarter q) (PP X Y c)) -∗ Q ⟨⟩) -∗ wpK c (prodQ off offA h hA) Q) := by
  unfold insP prodQ accP
  simp only [Prog.lift, Prog.bind_op, Prog.bind_ret]
  iintro ⟨⟨Ha, Hb⟩, ⟨%f, Hacc⟩⟩ HQ
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_load 𝒱₀ (c : Thread nD τ) none Set.univ (m := accM) (ld_acc_q hA eA)) $$ Hacc; iintro Hacc
  iapply (wp_store 𝒱₀ (c : Thread nD τ) none Set.univ (m := accM) (r := Rect.unit (s := S512x512) offA S128x512.size hA) (Mk := Finset.univ)
    (acc_q_set hA eA).subset) $$ Hacc; iintro Hacc
  rw [wp_ret]; imodintro
  iapply HQ
  isplitl [Ha Hb]; · isplitl [Ha] <;> iassumption
  iapply (Entails.of_eq (pointsTo_congr (prod_val X Y c h hA e eA f))); iexact Hacc

theorem sumA_spec (c : Dev nD) (oc : Fin 4) (Q : PUnit → sProp 𝕄) :
    iprop(bigSepL (recvA oc) (landP X Y c) ∗ accP c (chunk (kk c 0 oc)) (PP X Y c))
      ⊢ iprop(((bigSepL (recvA oc) (landP X Y c) ∗ accP c (chunk (kk c 0 oc)) (S1 X Y c)) -∗ Q ⟨⟩) -∗ wpK c (sumA c oc) Q) := by
  unfold recvA
  simp only [bigSepL_cons', bigSepL_nil, landP_A]
  unfold accP rAP sumA
  simp only [Prog.lift, Prog.bind_op, Prog.bind_ret]
  iintro ⟨⟨H0, H1, H2, -⟩, Hacc⟩ HQ
  iapply (wp_load 𝒱₀ (c : Thread nD τ) none Set.univ (m := accM) (ld_acc _ (off7_eq c oc))) $$ Hacc; iintro Hacc
  iapply (wp_load 𝒱₀ (c : Thread nD τ) none Set.univ (m := rAM) (ld_boxA _ (off8_eq c oc))) $$ H0; iintro H0
  iapply (wp_load 𝒱₀ (c : Thread nD τ) none Set.univ (m := rAM) (ld_boxA _ (off9_eq c oc))) $$ H1; iintro H1
  iapply (wp_load 𝒱₀ (c : Thread nD τ) none Set.univ (m := rAM) (ld_boxA _ (off10_eq c oc))) $$ H2; iintro H2
  iapply (wp_load 𝒱₀ (c : Thread nD τ) none Set.univ (m := accM) (ld_acc _ (off7_eq c oc))) $$ Hacc; iintro Hacc
  iapply (wp_store 𝒱₀ (c : Thread nD τ) none Set.univ (m := accM) (r := Rect.unit (s := S512x512) (k0_off7 c (w oc.val)) S32x512.size (k0_off7_inb c oc))
    (Mk := Finset.univ) (acc_set _ (off7_eq c oc)).subset) $$ Hacc; iintro Hacc
  rw [wp_ret]; imodintro
  iapply HQ
  isplitl [H0 H1 H2]
  · isplitl [H0]; · iexact H0
    isplitl [H1]; · iexact H1
    isplitl [H2]; · iexact H2
    iempintro
  iapply (Entails.of_eq (pointsTo_congr (sumA_val X Y c oc (PP X Y c)))); iexact Hacc

theorem sumB_spec (c : Dev nD) (Q : PUnit → sProp 𝕄) :
    iprop(bigSepL [.B 0, .B 1, .B 2] (landP X Y c) ∗ accP c (chunk (kk c 0 0)) (S1 X Y c) ∗ ∃ f, outP c (chunk (kk c 0 0)) fullShare f)
      ⊢ iprop(((bigSepL [.B 0, .B 1, .B 2] (landP X Y c) ∗ accP c (chunk (kk c 0 0)) (S1 X Y c)
          ∗ outP c (chunk (kk c 0 0)) fullShare (OO X Y)) -∗ Q ⟨⟩) -∗ wpK c (sumB c) Q) := by
  simp only [bigSepL_cons', bigSepL_nil, landP_B]
  unfold accP rBP outP sumB
  simp only [Prog.lift, Prog.bind_op, Prog.bind_ret]
  iintro ⟨⟨H0, H1, H2, -⟩, Hacc, ⟨%f, Hout⟩⟩ HQ
  iapply (wp_load 𝒱₀ (c : Thread nD τ) none Set.univ (m := accM) (ld_acc _ (off12_eq c))) $$ Hacc; iintro Hacc
  iapply (wp_load 𝒱₀ (c : Thread nD τ) none Set.univ (m := rBM) (ld_boxB _ rfl)) $$ H0; iintro H0
  iapply (wp_load 𝒱₀ (c : Thread nD τ) none Set.univ (m := rBM) (ld_boxB _ rfl)) $$ H1; iintro H1
  iapply (wp_load 𝒱₀ (c : Thread nD τ) none Set.univ (m := rBM) (ld_boxB _ rfl)) $$ H2; iintro H2
  iapply (wp_load 𝒱₀ (c : Thread nD τ) none Set.univ (m := outM) (ld_out _ (off12_eq c))) $$ Hout; iintro Hout
  iapply (wp_store 𝒱₀ (c : Thread nD τ) none Set.univ (m := outM) (r := Rect.unit (s := S512x512) (k0_off12 c) S32x512.size (k0_off12_inb c))
    (Mk := Finset.univ) (out_set _ (off12_eq c)).subset) $$ Hout; iintro Hout
  rw [wp_ret]; imodintro
  iapply HQ
  isplitl [H0 H1 H2]
  · isplitl [H0]; · iexact H0
    isplitl [H1]; · iexact H1
    isplitl [H2]; · iexact H2
    iempintro
  isplitl [Hacc]; · iexact Hacc
  iapply (Entails.of_eq (pointsTo_congr (sumB_val X Y c f))); iexact Hout

end Cert.KernelIdeal.Gen

end
-- ==== Proof.Stages.lean ====
/- How the buffers are cut for the transfers and put together again, and the first-level stages of the kernel. -/
module

public import proofs.«01_k».proof.Proof.Blocks
public import Idealize.ShloMosaic.Lib.Ring
public import Idealize.ShloMosaic.Lib.Ring.AtN

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop)

variable {F : FTy → Type} [FloatOps F]

local notation "𝕄" => MT nD τ sig Unit (Elt F) ℕ UU ℕ

variable (X : Dev nD → Vec F S512x256 .f32) (Y : Dev nD → Vec F S256x512 .f32)

/-! ## Cutting -/

/-- A quarter of the accumulator is its four chunks. -/
theorem quarter_split (c : Dev nD) (o : Fin 4) (f : Vec F S512x512 .f32) :
    accP c (quarter (qa c o)) f = bigSep Finset.univ fun b : Fin 4 => accP c (chunk (kk c o b)) f := by
  unfold accP
  exact Ring.pointsTo_sub_blocks (Ix := Unit) (Name := ℕ) (U := UU) (Lvl := ℕ) (Val := Elt F) (ℓ := accM.view.loc (c : Thread nD τ)) (q := fullShare) (fun b : Fin 4 => chunk (kk c o b)) (quarter_chunks_disj c o) _ (quarter_chunks c o) f

/-- The quarter of first-level distance `o + 1` is the sources of the four transfers there. -/
theorem quarter_src (c : Dev nD) (o : Fin 3) :
    accP c (quarter (qa c (up o))) (PP X Y c) ⊢ bigSepL (sendA o) (srcP X Y c) := by
  rw [quarter_split, Ring.bigSep_fin4]
  unfold sendA
  simp only [bigSepL_cons', bigSepL_nil, srcP_A]
  iintro ⟨H0, H1, H2, H3⟩
  isplitl [H3]; · iexact H3
  isplitl [H2]; · iexact H2
  isplitl [H1]; · iexact H1
  isplitl [H0]; · iexact H0
  iempintro

/-- The finished own chunk is read by six transfers at once. -/
theorem own_shares (c : Dev nD) : outP c (chunk (kk c 0 0)) fullShare (OO X Y)
    ⊣⊢ iprop(outP c (chunk (kk c 0 0)) (shareDrop fullShare 6) (OO X Y) ∗ bigSepL sendG0 (srcP X Y c)) := by
  have h := Transfers.pointsTo_toks (Ix := Unit) (Name := ℕ) (U := UU) (Lvl := ℕ) (Val := Elt F) (ℓ := outM.view.loc (c : Thread nD τ)) (S := chunk (kk c 0 0)) (f := OO X Y) fullShare 6
  rw [bigSep_univ_eq_bigSepL [0, 1, 2, 3, 4, 5] (by decide) (by decide)] at h
  unfold sendG0
  simp only [bigSepL_cons', bigSepL_nil, srcP_GB, srcP_GA0] at h ⊢
  exact h

/-- A chunk landed from a second-level peer is passed on to three first-level peers at once. -/
theorem got_shares (c : Dev nD) (ob : Fin 3) : outP c (chunk (kk c 0 (up ob))) fullShare (OO X Y)
    ⊣⊢ iprop(outP c (chunk (kk c 0 (up ob))) (shareDrop fullShare 3) (OO X Y) ∗ bigSepL (sendG ob) (srcP X Y c)) := by
  have h := Transfers.pointsTo_toks (Ix := Unit) (Name := ℕ) (U := UU) (Lvl := ℕ) (Val := Elt F) (ℓ := outM.view.loc (c : Thread nD τ)) (S := chunk (kk c 0 (up ob))) (f := OO X Y) fullShare 3
  rw [bigSep_univ_eq_bigSepL [0, 1, 2] (by decide) (by decide)] at h
  unfold sendG
  simp only [bigSepL_cons', bigSepL_nil, srcP_GA] at h ⊢
  exact h

/-! ## Joining -/

theorem acc_join (c : Dev nD) :
    iprop(bigSepL (sendA 2) (srcP X Y c) ∗ bigSepL (sendA 1) (srcP X Y c) ∗ bigSepL (sendA 0) (srcP X Y c)
      ∗ bigSepL [.B 2, .B 1, .B 0] (srcP X Y c) ∗ accP c (chunk (kk c 0 0)) (S1 X Y c))
      ⊢ iprop(∃ f, accP c Finset.univ f) := by
  refine .trans ?_ (Ring.pointsTo_blocks_join_exists (ℓ := accM.view.loc (c : Thread nD τ)) (fun p : Fin 4 × Fin 4 => chunk (kk c p.1 p.2)) (chunks_disj c) (chunks_cover c) (PP X Y c))
  rw [bigSep_univ_prod, Ring.bigSep_fin4, Ring.bigSep_fin4, Ring.bigSep_fin4, Ring.bigSep_fin4, Ring.bigSep_fin4]
  unfold sendA
  simp only [bigSepL_cons', bigSepL_nil, srcP_A, srcP_B]
  unfold accP
  iintro ⟨⟨H33, H32, H31, H30, -⟩, ⟨H23, H22, H21, H20, -⟩, ⟨H13, H12, H11, H10, -⟩, ⟨H03, H02, H01, -⟩, H00⟩
  isplitl [H00 H01 H02 H03]
  · isplitl [H00]; · iexists _; iexact H00
    isplitl [H01]; · iexists _; iexact H01
    isplitl [H02]; · iexists _; iexact H02
    iexists _; iexact H03
  isplitl [H10 H11 H12 H13]
  · isplitl [H10]; · iexists _; iexact H10
    isplitl [H11]; · iexists _; iexact H11
    isplitl [H12]; · iexists _; iexact H12
    iexists _; iexact H13
  isplitl [H20 H21 H22 H23]
  · isplitl [H20]; · iexists _; iexact H20
    isplitl [H21]; · iexists _; iexact H21
    isplitl [H22]; · iexists _; iexact H22
    iexists _; iexact H23
  · isplitl [H30]; · iexists _; iexact H30
    isplitl [H31]; · iexists _; iexact H31
    isplitl [H32]; · iexists _; iexact H32
    iexists _; iexact H33

theorem rA_join (c : Dev nD) :
    iprop(bigSepL (recvA 3) (landP X Y c) ∗ bigSepL (recvA 2) (landP X Y c) ∗ bigSepL (recvA 1) (landP X Y c) ∗ bigSepL (recvA 0) (landP X Y c))
      ⊢ iprop(∃ f, rAP c Finset.univ f) := by
  have h := Ring.pointsTo_blocks (Ix := Unit) (Name := ℕ) (U := UU) (Lvl := ℕ) (Val := Elt F) (ℓ := rAM.view.loc (c : Thread nD τ)) (fun p : Fin 3 × Fin 4 => boxA p.1 (qb c p.2)) (boxA_disj c) (boxA_cover c)
    (q := fullShare) (RA X Y c)
  rw [bigSep_univ_prod, Ring.bigSep_fin3, Ring.bigSep_fin4, Ring.bigSep_fin4, Ring.bigSep_fin4] at h
  unfold recvA
  simp only [bigSepL_cons', bigSepL_nil, landP_A]
  unfold rAP
  iintro ⟨⟨H03, H13, H23, -⟩, ⟨H02, H12, H22, -⟩, ⟨H01, H11, H21, -⟩, ⟨H00, H10, H20, -⟩⟩
  iexists (RA X Y c)
  iapply (Entails.of_eq h.symm)
  isplitl [H00 H01 H02 H03]
  · isplitl [H00]; · iexact H00
    isplitl [H01]; · iexact H01
    isplitl [H02] <;> iassumption
  isplitl [H10 H11 H12 H13]
  · isplitl [H10]; · iexact H10
    isplitl [H11]; · iexact H11
    isplitl [H12] <;> iassumption
  · isplitl [H20]; · iexact H20
    isplitl [H21]; · iexact H21
    isplitl [H22] <;> iassumption

theorem rB_join (c : Dev nD) : bigSepL [.B 0, .B 1, .B 2] (landP X Y c) ⊢ iprop(∃ f, rBP c Finset.univ f) := by
  have h := Ring.pointsTo_blocks (Ix := Unit) (Name := ℕ) (U := UU) (Lvl := ℕ) (Val := Elt F) (ℓ := rBM.view.loc (c : Thread nD τ)) boxB boxB_disj boxB_cover (q := fullShare) (RB X Y c)
  rw [Ring.bigSep_fin3] at h
  simp only [bigSepL_cons', bigSepL_nil, landP_B]
  unfold rBP
  iintro ⟨H0, H1, H2, -⟩
  iexists (RB X Y c)
  iapply (Entails.of_eq h.symm)
  isplitl [H0]; · iexact H0
  isplitl [H1] <;> iassumption

/-- The result: the own chunk, the three landed from second-level peers, and the twelve landed from first-level ones. -/
theorem out_join (c : Dev nD) :
    iprop(outP c (chunk (kk c 0 0)) fullShare (OO X Y) ∗ outP c (chunk (kk c 0 1)) fullShare (OO X Y) ∗ outP c (chunk (kk c 0 2)) fullShare (OO X Y)
      ∗ outP c (chunk (kk c 0 3)) fullShare (OO X Y) ∗ bigSepL recvGA (landP X Y c))
      ⊢ outP c Finset.univ fullShare (OO X Y) := by
  have h := Ring.pointsTo_blocks (Ix := Unit) (Name := ℕ) (U := UU) (Lvl := ℕ) (Val := Elt F) (ℓ := outM.view.loc (c : Thread nD τ)) (fun p : Fin 4 × Fin 4 => chunk (kk c p.1 p.2)) (chunks_disj c)
    (chunks_cover c) (q := fullShare) (OO X Y)
  rw [bigSep_univ_prod, Ring.bigSep_fin4, Ring.bigSep_fin4, Ring.bigSep_fin4, Ring.bigSep_fin4, Ring.bigSep_fin4] at h
  refine .trans ?_ (Entails.of_eq h.symm)
  unfold recvGA
  simp only [bigSepL_cons', bigSepL_nil, landP_GA0, landP_GA]
  unfold outP
  iintro ⟨H00, H01, H02, H03, ⟨H10, H11, H12, H13, H20, H21, H22, H23, H30, H31, H32, H33, -⟩⟩
  isplitl [H00 H01 H02 H03]
  · isplitl [H00]; · iexact H00
    isplitl [H01]; · iexact H01
    isplitl [H02]; · iexact H02
    iexact H03
  isplitl [H10 H11 H12 H13]
  · isplitl [H10]; · iexact H10
    isplitl [H11]; · iexact H11
    isplitl [H12]; · iexact H12
    iexact H13
  isplitl [H20 H21 H22 H23]
  · isplitl [H20]; · iexact H20
    isplitl [H21]; · iexact H21
    isplitl [H22]; · iexact H22
    iexact H23
  · isplitl [H30]; · iexact H30
    isplitl [H31]; · iexact H31
    isplitl [H32]; · iexact H32
    iexact H33

/-! ## The first-level stages -/

/-- One program after another. -/
theorem wpK_seq (c : Dev nD) {α β : Type} (p : KP F α) (k : α → KP F β) (Q : β → sProp 𝕄) :
    wpK c (p >>= k) Q = wpK c p (fun a => wpK c (k a) Q) := wp_bind ..

theorem blockA_spec (K : Dev nD × Cl → ℕ) (c : Dev nD) (o : Fin 3) (ts : List Tr) (Q : PUnit → sProp 𝕄) :
    iprop(recs X Y K ∗ insP X Y c ∗ (∃ f, accP c (quarter (qa c (up o))) f) ∗ owe c (sendA o ++ ts) ∗ bigSepL (sendA o) (tokS c))
      ⊢ iprop(((insP X Y c ∗ owe c ts ∗ bigSepL (sendA o) (credS c)) -∗ Q ⟨⟩) -∗ wpK c (blockA c o) Q) := by
  unfold blockA
  rw [wpK_seq]
  iintro ⟨#HR, Hin, Hacc, HO, Ht⟩ HQ
  iapply (prodQ_spec X Y c _ _ (off1_eq c o) (off2_eq c o)) $$ [Hin Hacc]
  · isplitl [Hin]; · iexact Hin
    iexact Hacc
  iintro ⟨Hin, Hacc⟩
  iapply (sends_spec X Y K c ts _ (sendA o)) $$ [HO Ht Hacc]
  · isplitr; · iexact HR
    isplitl [HO]; · iexact HO
    isplitl [Ht]; · iexact Ht
    iapply (quarter_src X Y c o); iexact Hacc
  iintro ⟨HO, Hc⟩
  iapply HQ
  isplitl [Hin]; · iexact Hin
  isplitl [HO] <;> iassumption

theorem blockS_spec (K : Dev nD × Cl → ℕ) (c : Dev nD) (oc : Fin 4) (ts : List Tr) (h : ∀ y ∈ ts, 2 < lvl y) (Q : PUnit → sProp 𝕄) :
    iprop(recs X Y K ∗ levAts L lv ∗ accP c (chunk (kk c 0 oc)) (PP X Y c) ∗ owe c ts ∗ bigSepL (recvA oc) (posR c))
      ⊢ iprop(((bigSepL (recvA oc) (landP X Y c) ∗ accP c (chunk (kk c 0 oc)) (S1 X Y c) ∗ owe c ts
          ∗ bigSepL (recvA oc) (fun x => semVal (recvCell c x) 0)) -∗ Q ⟨⟩) -∗ wpK c (blockS c oc) Q) := by
  unfold blockS
  rw [wpK_seq]
  iintro ⟨#HR, #Hlev, Hacc, HO, Hp⟩ HQ
  iapply (recvs_spec X Y K c ts _ (recvA oc) (by
    intro x hx y hy
    have : lvl x = 2 := by revert x; revert oc; decide
    rw [this]; exact h y hy)) $$ [HO Hp]
  · isplitr; · iexact HR
    isplitr; · iexact Hlev
    isplitl [HO] <;> iassumption
  iintro ⟨HO, Hl, Hz⟩
  iapply (sumA_spec X Y c oc) $$ [Hl Hacc]
  · isplitl [Hl] <;> iassumption
  iintro ⟨Hl, Hacc⟩
  iapply HQ
  isplitl [Hl]; · iexact Hl
  isplitl [Hacc]; · iexact Hacc
  isplitl [HO] <;> iassumption

end Cert.KernelIdeal.Gen

end
-- ==== Proof.Run.lean ====
/- The whole body of the kernel on one device, from what the launch hands it to what it leaves. -/
module

public import proofs.«01_k».proof.Proof.Stages

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type} [FloatOps F]

local notation "𝕄" => MT nD τ sig Unit (Elt F) ℕ UU ℕ

variable (X : Dev nD → Vec F S512x256 .f32) (Y : Dev nD → Vec F S256x512 .f32)

/-- The transfers in the order they are started, and in the order their arrivals are waited for. -/
def started : List Tr :=
  sendA 2 ++ (sendA 1 ++ (sendA 0 ++ ([.B 2] ++ ([.B 1] ++ ([.B 0] ++ (sendG0 ++ (sendG 0 ++ (sendG 1 ++ sendG 2))))))))
def arrived : List Tr :=
  recvA 3 ++ (recvA 2 ++ (recvA 1 ++ (recvA 0 ++ ([.B 0, .B 1, .B 2] ++ ([.GB 0] ++ ([.GB 1] ++ ([.GB 2] ++ recvGA)))))))

theorem drainAll_eq : drainAll = started := rfl
theorem started_all : (Finset.univ : Finset Tr) = started.toFinset := by decide +kernel
theorem started_nodup : started.Nodup := by decide +kernel
theorem arrived_all : (Finset.univ : Finset Tr) = arrived.toFinset := by decide +kernel
theorem arrived_nodup : arrived.Nodup := by decide +kernel

/-- What is still to be started after the second-level sends of distance 3, 2, 1, and after each stage of the gather. -/
abbrev leftG (ob : Fin 3) : List Tr := match ob with | 0 => sendG 0 ++ (sendG 1 ++ sendG 2) | 1 => sendG 1 ++ sendG 2 | 2 => sendG 2
abbrev leftB (ob : Fin 3) : List Tr := match ob with
  | 0 => [.B 0] ++ (sendG0 ++ leftG 0) | 1 => [.B 1] ++ ([.B 0] ++ (sendG0 ++ leftG 0))
  | 2 => [.B 2] ++ ([.B 1] ++ ([.B 0] ++ (sendG0 ++ leftG 0)))

theorem src_B (c : Dev nD) (ob : Fin 3) : bigSepL [.B ob] (srcP X Y c) = accP c (chunk (kk c 0 (up ob))) (S1 X Y c) := srcP_B X Y c ob
theorem land_GB (c : Dev nD) (ob : Fin 3) : bigSepL [.GB ob] (landP X Y c) = outP c (chunk (kk c 0 (up ob))) fullShare (OO X Y) :=
  landP_GB X Y c ob

/-- What the body holds once the barrier is passed. -/
def runPre (c : Dev nD) : sProp 𝕄 :=
  iprop(owe c drainAll ∗ insP X Y c ∗ bigSep Finset.univ (fun o : Fin 4 => iprop(∃ f, accP c (quarter (qa c o)) f))
    ∗ (∃ f, outP c (chunk (kk c 0 0)) fullShare f) ∗ bigSep Finset.univ (tokS (F := F) c) ∗ bigSep Finset.univ (posS (F := F) c)
    ∗ bigSep Finset.univ (posR (F := F) c))
/-- What it leaves. -/
def runPost (c : Dev nD) : sProp 𝕄 :=
  iprop(owe c [] ∗ insP X Y c ∗ (∃ f, accP c Finset.univ f) ∗ outP c Finset.univ fullShare (OO X Y) ∗ (∃ f, rAP c Finset.univ f)
    ∗ (∃ f, rBP c Finset.univ f) ∗ bigSep Finset.univ (fun x => semVal (sendCell c x) 0) ∗ bigSep Finset.univ (fun x => semVal (recvCell c x) 0))

set_option maxHeartbeats 8000000 in
theorem run_spec (K : Dev nD × Cl → ℕ) (c : Dev nD) (Q : PUnit → sProp 𝕄) :
    iprop(recs X Y K ∗ levAts L lv ∗ runPre X Y c) ⊢ iprop((runPost X Y c -∗ Q ⟨⟩) -∗ wpK c (run c) Q) := by
  unfold runPre runPost run
  rw [drainAll_eq, bigSep_univ_eq_bigSepL started started_all started_nodup, bigSep_univ_eq_bigSepL started started_all started_nodup,
    bigSep_univ_eq_bigSepL arrived arrived_all arrived_nodup, bigSep_univ_eq_bigSepL started started_all started_nodup,
    bigSep_univ_eq_bigSepL arrived arrived_all arrived_nodup, Ring.bigSep_fin4]
  unfold started arrived
  simp only [bigSepL_append]
  iintro ⟨#HR, #Hlev, ⟨HO, Hin, ⟨Hq0, Hq1, Hq2, Hq3⟩, Hout, ⟨Ht2, Ht1, Ht0, HtB2, HtB1, HtB0, HtG, HtG0, HtG1, HtG2⟩,
    ⟨HsA2, HsA1, HsA0, HsB2, HsB1, HsB0, HsG, HsG0, HsG1, HsG2⟩,
    ⟨Hr3, Hr2, Hr1, Hr0, HrB, HrG0, HrG1, HrG2, HrGA⟩⟩⟩ HQ
  -- the quarters of the first-level peers
  rw [wpK_seq]
  iapply (blockA_spec X Y K c 2) $$ [Hin Hq3 HO Ht2]
  · isplitr; · iexact HR
    isplitl [Hin]; · iexact Hin
    isplitl [Hq3]; · iexact Hq3
    isplitl [HO] <;> iassumption
  iintro ⟨Hin, HO, HcA2⟩
  rw [wpK_seq]
  iapply (blockA_spec X Y K c 1) $$ [Hin Hq2 HO Ht1]
  · isplitr; · iexact HR
    isplitl [Hin]; · iexact Hin
    isplitl [Hq2]; · iexact Hq2
    isplitl [HO] <;> iassumption
  iintro ⟨Hin, HO, HcA1⟩
  rw [wpK_seq]
  iapply (blockA_spec X Y K c 0) $$ [Hin Hq1 HO Ht0]
  · isplitr; · iexact HR
    isplitl [Hin]; · iexact Hin
    isplitl [Hq1]; · iexact Hq1
    isplitl [HO] <;> iassumption
  iintro ⟨Hin, HO, HcA0⟩
  -- the own quarter
  rw [wpK_seq]
  iapply (prodQ_spec X Y c _ _ (off5_eq c) (off6_eq c)) $$ [Hin Hq0]
  · isplitl [Hin] <;> iassumption
  iintro ⟨Hin, Hq0⟩
  ihave Hq := (Entails.of_eq ((quarter_split c 0 (PP X Y c)).trans (Ring.bigSep_fin4 _))) $$ Hq0
  icases Hq with ⟨H0, H1, H2, H3⟩
  -- the first-level sums, each sent to its second-level peer
  rw [wpK_seq]
  iapply (blockS_spec X Y K c 3 (leftB 2) (by decide)) $$ [H3 HO Hr3]
  · isplitr; · iexact HR
    isplitr; · iexact Hlev
    isplitl [H3]; · iexact H3
    isplitl [HO]; · iexact HO
    iexact Hr3
  iintro ⟨HlA3, H3, HO, HzA3⟩
  rw [wpK_seq]
  iapply (sends_spec X Y K c _ _ [.B 2]) $$ [HO HtB2 H3]
  · isplitr; · iexact HR
    isplitl [HO]; · iexact HO
    isplitl [HtB2]; · iexact HtB2
    iapply (Entails.of_eq (src_B X Y c 2).symm); iexact H3
  iintro ⟨HO, HcB2⟩
  rw [wpK_seq]
  iapply (blockS_spec X Y K c 2 (leftB 1) (by decide)) $$ [H2 HO Hr2]
  · isplitr; · iexact HR
    isplitr; · iexact Hlev
    isplitl [H2]; · iexact H2
    isplitl [HO]; · iexact HO
    iexact Hr2
  iintro ⟨HlA2, H2, HO, HzA2⟩
  rw [wpK_seq]
  iapply (sends_spec X Y K c _ _ [.B 1]) $$ [HO HtB1 H2]
  · isplitr; · iexact HR
    isplitl [HO]; · iexact HO
    isplitl [HtB1]; · iexact HtB1
    iapply (Entails.of_eq (src_B X Y c 1).symm); iexact H2
  iintro ⟨HO, HcB1⟩
  rw [wpK_seq]
  iapply (blockS_spec X Y K c 1 (leftB 0) (by decide)) $$ [H1 HO Hr1]
  · isplitr; · iexact HR
    isplitr; · iexact Hlev
    isplitl [H1]; · iexact H1
    isplitl [HO]; · iexact HO
    iexact Hr1
  iintro ⟨HlA1, H1, HO, HzA1⟩
  rw [wpK_seq]
  iapply (sends_spec X Y K c _ _ [.B 0]) $$ [HO HtB0 H1]
  · isplitr; · iexact HR
    isplitl [HO]; · iexact HO
    isplitl [HtB0]; · iexact HtB0
    iapply (Entails.of_eq (src_B X Y c 0).symm); iexact H1
  iintro ⟨HO, HcB0⟩
  rw [wpK_seq]
  iapply (blockS_spec X Y K c 0 (sendG0 ++ leftG 0) (by decide)) $$ [H0 HO Hr0]
  · isplitr; · iexact HR
    isplitr; · iexact Hlev
    isplitl [H0]; · iexact H0
    isplitl [HO]; · iexact HO
    iexact Hr0
  iintro ⟨HlA0, H0, HO, HzA0⟩
  -- the second-level sum
  rw [wpK_seq]
  iapply (recvs_spec X Y K c (sendG0 ++ leftG 0) _ [.B 0, .B 1, .B 2] (by decide)) $$ [HO HrB]
  · isplitr; · iexact HR
    isplitr; · iexact Hlev
    isplitl [HO]; · iexact HO
    iexact HrB
  iintro ⟨HO, HlB, HzB⟩
  rw [wpK_seq]
  iapply (sumB_spec X Y c) $$ [HlB H0 Hout]
  · isplitl [HlB]; · iexact HlB
    isplitl [H0] <;> iassumption
  iintro ⟨HlB, H0, Hout⟩
  ihave Hsh := (own_shares X Y c).1 $$ Hout
  icases Hsh with ⟨Hown, Hsrc⟩
  rw [wpK_seq]
  iapply (sends_spec X Y K c _ _ sendG0) $$ [HO HtG Hsrc]
  · isplitr; · iexact HR
    isplitl [HO]; · iexact HO
    isplitl [HtG]; · iexact HtG
    iexact Hsrc
  iintro ⟨HO, HcG⟩
  -- the gather: what a second-level peer has finished goes on to the first-level peers
  rw [wpK_seq]
  iapply (recvs_spec X Y K c (leftG 0) _ [.GB 0] (by decide)) $$ [HO HrG0]
  · isplitr; · iexact HR
    isplitr; · iexact Hlev
    isplitl [HO]; · iexact HO
    iexact HrG0
  iintro ⟨HO, HlG0, HzG0⟩
  ihave Hl := (Entails.of_eq (land_GB X Y c 0)) $$ HlG0
  ihave Hsh := (got_shares X Y c 0).1 $$ Hl
  icases Hsh with ⟨Hgot0, Hsrc⟩
  rw [wpK_seq]
  iapply (sends_spec X Y K c _ _ (sendG 0)) $$ [HO HtG0 Hsrc]
  · isplitr; · iexact HR
    isplitl [HO]; · iexact HO
    isplitl [HtG0]; · iexact HtG0
    iexact Hsrc
  iintro ⟨HO, HcG0⟩
  rw [wpK_seq]
  iapply (recvs_spec X Y K c (leftG 1) _ [.GB 1] (by decide)) $$ [HO HrG1]
  · isplitr; · iexact HR
    isplitr; · iexact Hlev
    isplitl [HO]; · iexact HO
    iexact HrG1
  iintro ⟨HO, HlG1, HzG1⟩
  ihave Hl := (Entails.of_eq (land_GB X Y c 1)) $$ HlG1
  ihave Hsh := (got_shares X Y c 1).1 $$ Hl
  icases Hsh with ⟨Hgot1, Hsrc⟩
  rw [wpK_seq]
  iapply (sends_spec X Y K c _ _ (sendG 1)) $$ [HO HtG1 Hsrc]
  · isplitr; · iexact HR
    isplitl [HO]; · iexact HO
    isplitl [HtG1]; · iexact HtG1
    iexact Hsrc
  iintro ⟨HO, HcG1⟩
  rw [wpK_seq]
  iapply (recvs_spec X Y K c (leftG 2) _ [.GB 2] (by decide)) $$ [HO HrG2]
  · isplitr; · iexact HR
    isplitr; · iexact Hlev
    isplitl [HO]; · iexact HO
    iexact HrG2
  iintro ⟨HO, HlG2, HzG2⟩
  ihave Hl := (Entails.of_eq (land_GB X Y c 2)) $$ HlG2
  ihave Hsh := (got_shares X Y c 2).1 $$ Hl
  icases Hsh with ⟨Hgot2, Hsrc⟩
  rw [wpK_seq]
  iapply (sends_spec X Y K c [] _ (sendG 2)) $$ [HO HtG2 Hsrc]
  · isplitr; · iexact HR
    isplitl [HO]; · rw [List.append_nil]; iexact HO
    isplitl [HtG2]; · iexact HtG2
    iexact Hsrc
  iintro ⟨HO, HcG2⟩
  rw [wpK_seq]
  iapply (recvs_spec X Y K c [] _ recvGA (by decide)) $$ [HO HrGA]
  · isplitr; · iexact HR
    isplitr; · iexact Hlev
    isplitl [HO]; · iexact HO
    iexact HrGA
  iintro ⟨HO, HlGA, HzGA⟩
  -- the sources come back
  iapply (drains_spec X Y K c _ drainAll) $$ [HO HsA2 HsA1 HsA0 HsB2 HsB1 HsB0 HsG HsG0 HsG1 HsG2 HcA2 HcA1 HcA0 HcB2 HcB1 HcB0 HcG HcG0 HcG1 HcG2]
  · rw [drainAll_eq]
    unfold started
    simp only [bigSepL_append]
    isplitr; · iexact HR
    isplitl [HO]; · iexact HO
    isplitl [HsA2 HsA1 HsA0 HsB2 HsB1 HsB0 HsG HsG0 HsG1 HsG2]
    · isplitl [HsA2]; · iexact HsA2
      isplitl [HsA1]; · iexact HsA1
      isplitl [HsA0]; · iexact HsA0
      isplitl [HsB2]; · iexact HsB2
      isplitl [HsB1]; · iexact HsB1
      isplitl [HsB0]; · iexact HsB0
      isplitl [HsG]; · iexact HsG
      isplitl [HsG0]; · iexact HsG0
      isplitl [HsG1] <;> iassumption
    · isplitl [HcA2]; · iexact HcA2
      isplitl [HcA1]; · iexact HcA1
      isplitl [HcA0]; · iexact HcA0
      isplitl [HcB2]; · iexact HcB2
      isplitl [HcB1]; · iexact HcB1
      isplitl [HcB0]; · iexact HcB0
      isplitl [HcG]; · iexact HcG
      isplitl [HcG0]; · iexact HcG0
      isplitl [HcG1] <;> iassumption
  rw [drainAll_eq]
  unfold started
  simp only [bigSepL_append]
  iintro ⟨HO, ⟨HA2, HA1, HA0, HB2, HB1, HB0, HG, HG0, HG1, HG2⟩, Hz⟩
  iapply HQ
  isplitl [HO]; · iexact HO
  isplitl [Hin]; · iexact Hin
  isplitl [HA2 HA1 HA0 HB2 HB1 HB0 H0]
  · iapply (acc_join X Y c)
    isplitl [HA2]; · iexact HA2
    isplitl [HA1]; · iexact HA1
    isplitl [HA0]; · iexact HA0
    isplitr [H0]
    · rw [show ([.B 2, .B 1, .B 0] : List Tr) = [.B 2] ++ ([.B 1] ++ [.B 0]) from rfl]
      simp only [bigSepL_append]
      isplitl [HB2]; · iexact HB2
      isplitl [HB1] <;> iassumption
    · iexact H0
  isplitl [Hown HG Hgot0 HG0 Hgot1 HG1 Hgot2 HG2 HlGA]
  · iapply (out_join X Y c)
    isplitl [Hown HG]
    · iapply (own_shares X Y c).2; isplitl [Hown] <;> iassumption
    isplitl [Hgot0 HG0]
    · iapply (got_shares X Y c 0).2; isplitl [Hgot0] <;> iassumption
    isplitl [Hgot1 HG1]
    · iapply (got_shares X Y c 1).2; isplitl [Hgot1] <;> iassumption
    isplitl [Hgot2 HG2]
    · iapply (got_shares X Y c 2).2; isplitl [Hgot2] <;> iassumption
    iexact HlGA
  isplitl [HlA3 HlA2 HlA1 HlA0]
  · iapply (rA_join X Y c)
    isplitl [HlA3]; · iexact HlA3
    isplitl [HlA2]; · iexact HlA2
    isplitl [HlA1] <;> iassumption
  isplitl [HlB]; · iapply (rB_join X Y c); iexact HlB
  isplitl [Hz]; · iexact Hz
  isplitl [HzA3]; · iexact HzA3
  isplitl [HzA2]; · iexact HzA2
  isplitl [HzA1]; · iexact HzA1
  isplitl [HzA0]; · iexact HzA0
  isplitl [HzB]; · iexact HzB
  isplitl [HzG0]; · iexact HzG0
  isplitl [HzG1]; · iexact HzG1
  isplitl [HzG2] <;> iassumption

/-- What the launch hands the body: besides the staged operands and the own parts of the buffers, the rights to pay the
    cells of its peers, its places at its own cells, and the credit the peers owe it. -/
def bodyPre (c : Dev nD) (W : Waits sig Unit) : sProp 𝕄 :=
  iprop(owes (c : Thread nD τ) (owedB c [0, 1, 2, 3, 4, 5]) W ∗ insP X Y c
    ∗ bigSep Finset.univ (fun o : Fin 4 => iprop(∃ f, accP c (quarter (qa c o)) f))
    ∗ (∃ f, outP c (chunk (kk c 0 0)) fullShare f)
    ∗ bigSep Finset.univ (tokB (F := F) c) ∗ bigSep Finset.univ (posS (F := F) c) ∗ bigSep Finset.univ (posR (F := F) c)
    ∗ bigSep Finset.univ (fun x => iprop(dutyTok ER (sendCell c x) 0 0 ∗ dutyTok ER (recvCell (px c x) x) 0 0))
    ∗ atPos ER (barCell c) 0 ∅ 0 ∗ cred (tallyAt (barCell c) () 6))

theorem tokS_join (c : Dev nD) :
    iprop(bigSep Finset.univ (fun x => iprop(dutyTok ER (sendCell c x) 0 0 ∗ dutyTok ER (recvCell (px c x) x) 0 0))
      ∗ bigSep Finset.univ (fun x => anyP (F := F) c x)) ⊢ (bigSep Finset.univ (tokS (F := F) c) : sProp 𝕄) := by
  rw [← bigSep_sep']
  have h : ∀ x, iprop((dutyTok ER (sendCell c x) 0 0 ∗ dutyTok ER (recvCell (px c x) x) 0 0) ∗ anyP (F := F) c x) ⊢ (tokS c x : sProp 𝕄) := by
    intro x
    unfold tokS
    iintro ⟨⟨H1, H2⟩, H3⟩
    isplitl [H1]; · iexact H1
    isplitl [H2] <;> iassumption
  exact bigSep_mono fun x _ => h x

theorem prog_spec (K : Dev nD × Cl → ℕ) (c : Dev nD) (W : Waits sig Unit) (Q : PUnit → sProp 𝕄) :
    iprop(recs X Y K ∗ levAts L lv ∗ bodyPre X Y c W)
      ⊢ iprop(((runPost X Y c ∗ semVal (barCell c) 0) -∗ Q ⟨⟩) -∗ wpK c prog Q) := by
  unfold bodyPre prog
  rw [wpK_seq]
  simp only [Prog.lift]
  rw [bigSep_univ_eq_bigSepL (I := Fin 6) [0, 1, 2, 3, 4, 5] (by decide) (by decide)]
  iintro ⟨#HR, #Hlev, ⟨HO, Hin, Hacc, Hout, HtB, HpS, HpR, Ht, Hat, Hc⟩⟩ HQ
  rw [wpK, wp_deviceId, wp_ret]; imodintro
  rw [wpK_seq]
  iapply (signals_spec X Y K c _ [0, 1, 2, 3, 4, 5] W) $$ [HO HtB]
  · isplitr; · iexact HR
    isplitl [HO] <;> iassumption
  iintro HO
  rw [wpK_seq]
  iapply (bar_spec X Y K c drainAll) $$ [HO Hat Hc]
  · isplitr; · iexact HR
    isplitr; · iexact Hlev
    isplitl [HO]; · iexact HO
    isplitl [Hat] <;> iassumption
  iintro ⟨HO, Hany, Hz⟩
  iapply (run_spec X Y K c) $$ [HO Hin Hacc Hout HpS HpR Ht Hany]
  · isplitr; · iexact HR
    isplitr; · iexact Hlev
    unfold runPre
    isplitl [HO]; · iexact HO
    isplitl [Hin]; · iexact Hin
    isplitl [Hacc]; · iexact Hacc
    isplitl [Hout]; · iexact Hout
    isplitl [Ht Hany]
    · iapply (tokS_join (F := F) c); isplitl [Ht] <;> iassumption
    isplitl [HpS] <;> iassumption
  iintro Hp
  iapply HQ
  isplitl [Hp] <;> iassumption

end Cert.KernelIdeal.Gen

end
-- ==== Proof.Give.lean ====
/- The parts of its buffers a device hands its peers at the barrier, and the body from whole buffers. -/
module

public import proofs.«01_k».proof.Proof.Run

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where a transfer lands, as a part of a buffer of the receiver -/

theorem any_A (c : Dev nD) (o : Fin 3) (oc : Fin 4) :
    (anyP (F := F) (px c (.A o oc)) (.A o oc) : sProp 𝕄) = iprop(∃ f, rAP (F := F) c (boxA o (qb c oc)) f) := by
  show (iprop(∃ f : Buf (Elt F) (rAM.view.loc (px (px c (.A o oc)) (.A o oc) : Thread nD τ)),
    rAM.view.loc (px (px c (.A o oc)) (.A o oc) : Thread nD τ) ↦[(dstM (px c (.A o oc)) (.A o oc)).view.set]{fullShare} f) : sProp 𝕄) = _
  have e := dstA_set (px c (.A o oc)) o oc
  rw [qb_A] at e
  rw [px_px]; erw [e]; rfl
theorem any_B (c : Dev nD) (ob : Fin 3) :
    (anyP (F := F) (px c (.B ob)) (.B ob) : sProp 𝕄) = iprop(∃ f, rBP (F := F) c (boxB ob) f) := by
  show (iprop(∃ f : Buf (Elt F) (rBM.view.loc (px (px c (.B ob)) (.B ob) : Thread nD τ)),
    rBM.view.loc (px (px c (.B ob)) (.B ob) : Thread nD τ) ↦[(dstM (px c (.B ob)) (.B ob)).view.set]{fullShare} f) : sProp 𝕄) = _
  have e := dstB_set (px c (.B ob)) ob
  rw [px_px]; erw [e]; rfl
theorem any_GB (c : Dev nD) (ob : Fin 3) :
    (anyP (F := F) (px c (.GB ob)) (.GB ob) : sProp 𝕄) = iprop(∃ f, outP (F := F) c (chunk (kk c 0 (up ob))) fullShare f) := by
  show (iprop(∃ f : Buf (Elt F) (outM.view.loc (px (px c (.GB ob)) (.GB ob) : Thread nD τ)),
    outM.view.loc (px (px c (.GB ob)) (.GB ob) : Thread nD τ) ↦[(dstM (px c (.GB ob)) (.GB ob)).view.set]{fullShare} f) : sProp 𝕄) = _
  have e : (dstM (px c (.GB ob)) (.GB ob)).view.set = chunk (kk (px c (.GB ob)) 0 0) := out_set _ (off13_eq _)
  rw [kk_GB] at e
  rw [px_px]; erw [e]; rfl
theorem any_GA0 (c : Dev nD) (o : Fin 3) :
    (anyP (F := F) (px c (.GA0 o)) (.GA0 o) : sProp 𝕄) = iprop(∃ f, outP (F := F) c (chunk (kk c (up o) 0)) fullShare f) := by
  show (iprop(∃ f : Buf (Elt F) (outM.view.loc (px (px c (.GA0 o)) (.GA0 o) : Thread nD τ)),
    outM.view.loc (px (px c (.GA0 o)) (.GA0 o) : Thread nD τ) ↦[(dstM (px c (.GA0 o)) (.GA0 o)).view.set]{fullShare} f) : sProp 𝕄) = _
  have e : (dstM (px c (.GA0 o)) (.GA0 o)).view.set = chunk (kk (px c (.GA0 o)) 0 0) := out_set _ (off13_eq _)
  rw [kk_GA0] at e
  rw [px_px]; erw [e]; rfl
theorem any_GA (c : Dev nD) (o ob : Fin 3) :
    (anyP (F := F) (px c (.GA o ob)) (.GA o ob) : sProp 𝕄) = iprop(∃ f, outP (F := F) c (chunk (kk c (up o) (up ob))) fullShare f) := by
  show (iprop(∃ f : Buf (Elt F) (outM.view.loc (px (px c (.GA o ob)) (.GA o ob) : Thread nD τ)),
    outM.view.loc (px (px c (.GA o ob)) (.GA o ob) : Thread nD τ) ↦[(dstM (px c (.GA o ob)) (.GA o ob)).view.set]{fullShare} f) : sProp 𝕄) = _
  have e : (dstM (px c (.GA o ob)) (.GA o ob)).view.set = chunk (kk (px c (.GA o ob)) 0 (up ob)) := out_set _ (off11_eq _ ob)
  rw [kk_GA] at e
  rw [px_px]; erw [e]; rfl

/-! ## Cutting whole buffers -/

/-- Pieces at given contents are pieces at some contents. -/
theorem some_of {B : Type} {V : Type} (s : Finset B) (f : V) (Φ : B → V → sProp 𝕄) :
    bigSep s (fun b => Φ b f) ⊢ bigSep s (fun b => iprop(∃ g, Φ b g)) := by
  have h : ∀ b, Φ b f ⊢ iprop(∃ g, Φ b g) := fun b => by iintro H; iexists f; iexact H
  exact bigSep_mono fun b _ => h b

theorem acc_cut (c : Dev nD) (f : Vec F S512x512 .f32) :
    accP c Finset.univ f ⊢ bigSep Finset.univ (fun o : Fin 4 => iprop(∃ f, accP (F := F) c (quarter (qa c o)) f)) := by
  refine .trans (Entails.of_eq ?_) (some_of Finset.univ f (fun (o : Fin 4) f => accP (F := F) c (quarter (qa c o)) f))
  unfold accP
  exact Ring.pointsTo_blocks (Ix := Unit) (Name := ℕ) (U := UU) (Lvl := ℕ) (Val := Elt F) (ℓ := accM.view.loc (c : Thread nD τ)) (q := fullShare)
    (fun o : Fin 4 => quarter (qa c o)) (quarters_disj c) (quarters_cover c) f
theorem rA_cut (c : Dev nD) (f : Vec F S3x128x512 .f32) :
    rAP c Finset.univ f ⊢ bigSep Finset.univ (fun p : Fin 3 × Fin 4 => iprop(∃ f, rAP (F := F) c (boxA p.1 (qb c p.2)) f)) := by
  refine .trans (Entails.of_eq ?_) (some_of Finset.univ f (fun (p : Fin 3 × Fin 4) f => rAP (F := F) c (boxA p.1 (qb c p.2)) f))
  unfold rAP
  exact Ring.pointsTo_blocks (Ix := Unit) (Name := ℕ) (U := UU) (Lvl := ℕ) (Val := Elt F) (ℓ := rAM.view.loc (c : Thread nD τ)) (q := fullShare)
    (fun p : Fin 3 × Fin 4 => boxA p.1 (qb c p.2)) (boxA_disj c) (boxA_cover c) f
theorem rB_cut (c : Dev nD) (f : Vec F S3x32x512 .f32) :
    rBP c Finset.univ f ⊢ bigSep Finset.univ (fun p : Fin 3 => iprop(∃ f, rBP (F := F) c (boxB p) f)) := by
  refine .trans (Entails.of_eq ?_) (some_of Finset.univ f (fun (p : Fin 3) f => rBP (F := F) c (boxB p) f))
  unfold rBP
  exact Ring.pointsTo_blocks (Ix := Unit) (Name := ℕ) (U := UU) (Lvl := ℕ) (Val := Elt F) (ℓ := rBM.view.loc (c : Thread nD τ)) (q := fullShare)
    boxB boxB_disj boxB_cover f
theorem out_cut (c : Dev nD) (f : Vec F S512x512 .f32) :
    outP c Finset.univ fullShare f ⊢ bigSep Finset.univ (fun p : Fin 4 × Fin 4 => iprop(∃ f, outP (F := F) c (chunk (kk c p.1 p.2)) fullShare f)) := by
  refine .trans (Entails.of_eq ?_) (some_of Finset.univ f (fun (p : Fin 4 × Fin 4) f => outP (F := F) c (chunk (kk c p.1 p.2)) fullShare f))
  unfold outP
  exact Ring.pointsTo_blocks (Ix := Unit) (Name := ℕ) (U := UU) (Lvl := ℕ) (Val := Elt F) (ℓ := outM.view.loc (c : Thread nD τ)) (q := fullShare)
    (fun p : Fin 4 × Fin 4 => chunk (kk c p.1 p.2)) (chunks_disj c) (chunks_cover c) f

/-- Every place a transfer lands in on `c`, and the one chunk of the result that none does. -/
theorem give_all (c : Dev nD) (fA : Vec F S3x128x512 .f32) (fB : Vec F S3x32x512 .f32) (fO : Vec F S512x512 .f32) :
    iprop(rAP c Finset.univ fA ∗ rBP c Finset.univ fB ∗ outP c Finset.univ fullShare fO)
      ⊢ iprop((∃ f, outP (F := F) c (chunk (kk c 0 0)) fullShare f) ∗ bigSep Finset.univ (fun x => anyP (F := F) (px c x) x)) := by
  rw [bigSep_univ_eq_bigSepL arrived arrived_all arrived_nodup]
  unfold arrived recvA recvGA
  simp only [bigSepL_append, bigSepL_cons', bigSepL_nil, any_A, any_B, any_GB, any_GA0, any_GA]
  have hA := rA_cut c fA
  have hB := rB_cut c fB
  have hO := out_cut c fO
  rw [bigSep_univ_prod, Ring.bigSep_fin3, Ring.bigSep_fin4, Ring.bigSep_fin4, Ring.bigSep_fin4] at hA
  rw [Ring.bigSep_fin3] at hB
  rw [bigSep_univ_prod, Ring.bigSep_fin4, Ring.bigSep_fin4, Ring.bigSep_fin4, Ring.bigSep_fin4, Ring.bigSep_fin4] at hO
  iintro ⟨HA, HB, HO⟩
  ihave HA := hA $$ HA
  ihave HB := hB $$ HB
  ihave HO := hO $$ HO
  icases HA with ⟨⟨A00, A01, A02, A03⟩, ⟨A10, A11, A12, A13⟩, ⟨A20, A21, A22, A23⟩⟩
  icases HB with ⟨B0, B1, B2⟩
  icases HO with ⟨⟨O00, O01, O02, O03⟩, ⟨O10, O11, O12, O13⟩, ⟨O20, O21, O22, O23⟩, ⟨O30, O31, O32, O33⟩⟩
  isplitl [O00]; · iexact O00
  isplitl [A03 A13 A23]
  · isplitl [A03]; · iexact A03
    isplitl [A13]; · iexact A13
    isplitl [A23]; · iexact A23
    iempintro
  isplitl [A02 A12 A22]
  · isplitl [A02]; · iexact A02
    isplitl [A12]; · iexact A12
    isplitl [A22]; · iexact A22
    iempintro
  isplitl [A01 A11 A21]
  · isplitl [A01]; · iexact A01
    isplitl [A11]; · iexact A11
    isplitl [A21]; · iexact A21
    iempintro
  isplitl [A00 A10 A20]
  · isplitl [A00]; · iexact A00
    isplitl [A10]; · iexact A10
    isplitl [A20]; · iexact A20
    iempintro
  isplitl [B0 B1 B2]
  · isplitl [B0]; · iexact B0
    isplitl [B1]; · iexact B1
    isplitl [B2]; · iexact B2
    iempintro
  isplitl [O01]; · isplitl [O01]; · iexact O01
                   iempintro
  isplitl [O02]; · isplitl [O02]; · iexact O02
                   iempintro
  isplitl [O03]; · isplitl [O03]; · iexact O03
                   iempintro
  isplitl [O10]; · iexact O10
  isplitl [O11]; · iexact O11
  isplitl [O12]; · iexact O12
  isplitl [O13]; · iexact O13
  isplitl [O20]; · iexact O20
  isplitl [O21]; · iexact O21
  isplitl [O22]; · iexact O22
  isplitl [O23]; · iexact O23
  isplitl [O30]; · iexact O30
  isplitl [O31]; · iexact O31
  isplitl [O32]; · iexact O32
  isplitl [O33]; · iexact O33
  iempintro

/-- These places are what the six barrier units hand over. -/
theorem give_bar (c : Dev nD) :
    bigSep Finset.univ (fun x => anyP (F := F) (px c x) x) = (bigSep Finset.univ (fun i : Fin 6 => barP (F := F) (pr c i) i) : sProp 𝕄) := by
  rw [← bigSep_group mi]
  refine bigSep_congr fun i _ => ?_
  unfold barP
  exact bigSep_congr fun x hx => by rw [← (Finset.mem_filter.1 hx).2]

/-! ## The body from whole buffers -/

variable (X : Dev nD → Vec F S512x256 .f32) (Y : Dev nD → Vec F S256x512 .f32)

/-- What is dealt to device `c` besides buffers: the rights to pay cells, its places at its own. -/
def dealt (c : Dev nD) : sProp 𝕄 :=
  iprop(bigSep Finset.univ (fun i : Fin 6 => dutyTok ER (barCell (pr c i)) 0 i)
    ∗ bigSep Finset.univ (fun x => dutyTok ER (sendCell c x) 0 0) ∗ bigSep Finset.univ (fun x => dutyTok ER (recvCell (px c x) x) 0 0)
    ∗ atPos ER (barCell c) 0 ∅ 0 ∗ bigSep Finset.univ (fun x => atPos ER (sendCell c x) 0 ∅ 0)
    ∗ bigSep Finset.univ (fun x => atPos ER (recvCell c x) 0 ∅ 0))
/-- The credit its peers owe it. -/
def owedTo (c : Dev nD) : sProp 𝕄 :=
  iprop(cred (tallyAt (barCell c) () 6) ∗ bigSep Finset.univ (fun x => cred (tallyAt (recvCell c x) () N)))

theorem whole_spec (K : Dev nD × Cl → ℕ) (c : Dev nD) (W : Waits sig Unit) (Q : PUnit → sProp 𝕄) :
    iprop(recs X Y K ∗ levAts L lv ∗ dealt c ∗ owedTo c ∗ owes (c : Thread nD τ) (owedB c [0, 1, 2, 3, 4, 5]) W ∗ insP X Y c
        ∗ (∃ f, accP c Finset.univ f) ∗ (∃ f, rAP c Finset.univ f) ∗ (∃ f, rBP c Finset.univ f) ∗ ∃ f, outP c Finset.univ fullShare f)
      ⊢ iprop(((runPost X Y c ∗ semVal (barCell c) 0) -∗ Q ⟨⟩) -∗ wpK c prog Q) := by
  unfold dealt owedTo
  iintro ⟨#HR, #Hlev, ⟨HtB, HtS, HtR, Hat, HpS, HpR⟩, ⟨Hc, Hcs⟩, HO, Hin, ⟨%f, Hacc⟩, ⟨%fA, HA⟩, ⟨%fB, HB⟩, ⟨%fO, Hout⟩⟩
  ihave Hacc := (acc_cut c f) $$ Hacc
  ihave Hg := (give_all c fA fB fO) $$ [HA HB Hout]
  · isplitl [HA]; · iexact HA
    isplitl [HB] <;> iassumption
  icases Hg with ⟨Hout, Hg⟩
  ihave Hg := (Entails.of_eq (give_bar (F := F) c)) $$ Hg
  iapply (prog_spec X Y K c W)
  isplitr; · iexact HR
  isplitr; · iexact Hlev
  unfold bodyPre tokB posR posS
  rw [bigSep_sep', bigSep_sep', bigSep_sep']
  isplitl [HO]; · iexact HO
  isplitl [Hin]; · iexact Hin
  isplitl [Hacc]; · iexact Hacc
  isplitl [Hout]; · iexact Hout
  isplitl [HtB Hg]; · isplitl [HtB] <;> iassumption
  isplitl [HpS]; · iexact HpS
  isplitl [HpR Hcs]; · isplitl [HpR] <;> iassumption
  isplitl [HtS HtR]; · isplitl [HtS] <;> iassumption
  isplitl [Hat] <;> iassumption

end Cert.KernelIdeal.Gen

end
-- ==== Proof.Deal.lean ====
/- The launch's ghost state: the cells and the tokens it makes, how they are dealt to the devices, and the credit. -/
module

public import proofs.«01_k».proof.Proof.Give
public import proofs.«01_k».proof.Proof.Gen.KernelIdeal.Launch
public import proofs.«01_k».proof.Proof.Gen.KernelIdeal.Points

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x256 .f32) (Y : Dev nD → Vec F S256x512 .f32)

/-! ## Families over the cells of a device -/

section Split
variable {M : Type} [URA M]

theorem bool_split (Φ : Bool × Tr → sProp M) :
    bigSep Finset.univ Φ = iprop(bigSep Finset.univ (fun x => Φ (false, x)) ∗ bigSep Finset.univ (fun x => Φ (true, x))) := by
  rw [bigSep_univ_prod, bigSep_univ_eq_bigSepL [false, true] (by decide) (by decide)]; rfl

theorem option_split {I : Type} [Fintype I] [DecidableEq I] (Φ : Option I → sProp M) :
    bigSep Finset.univ Φ = iprop(Φ none ∗ bigSep Finset.univ (fun x => Φ (some x))) := by
  rw [show (Finset.univ : Finset (Option I)) = insert none (Finset.univ.map Function.Embedding.some) from by
    ext x; cases x <;> simp, bigSep_insert (by simp), bigSep_map]
  rfl

theorem cell_split (Φ : Cl → sProp M) : bigSep Finset.univ Φ
    = iprop(Φ none ∗ bigSep Finset.univ (fun x => Φ (some (false, x))) ∗ bigSep Finset.univ (fun x => Φ (some (true, x)))) := by
  rw [option_split, bool_split]

/-- A family over devices and an index may be taken at the peers instead. -/
theorem at_peers {I : Type} [Fintype I] (e : Dev nD → I → Dev nD) (he : ∀ c i, e (e c i) i = c) (Φ : Dev nD → I → sProp M) :
    bigSep Finset.univ (fun c => bigSep Finset.univ (fun i => Φ c i)) = bigSep Finset.univ (fun c => bigSep Finset.univ (fun i => Φ (e c i) i)) := by
  rw [← bigSep_univ_prod (fun ci : Dev nD × I => Φ ci.1 ci.2), ← bigSep_univ_prod (fun ci : Dev nD × I => Φ (e ci.1 ci.2) ci.2)]
  exact bigSep_univ_equiv (⟨fun ci => (e ci.1 ci.2, ci.2), fun ci => (e ci.1 ci.2, ci.2),
    fun ci => Prod.ext (he _ _) rfl, fun ci => Prod.ext (he _ _) rfl⟩ : Dev nD × I ≃ Dev nD × I) _

end Split

/-! ## What the launch makes -/

theorem ownSemFacts : Pipeline.OwnSemFacts cfg0.spec osem := by decide +kernel

def allCells : Finset (GSem nD τ sig) := Finset.univ.map ⟨kcell, kcell_inj⟩

/-- The duty tokens: the six of each barrier cell, one of each other cell. -/
def tokOf (p : Dev nD × (Fin 6 ⊕ (Bool × Tr))) : GSem nD τ sig × ℕ × Fin 6 := match p.2 with
  | .inl i => (barCell p.1, 0, i)
  | .inr k => (kcell (p.1, some k), 0, 0)
theorem tokOf_inj : Function.Injective tokOf := by
  rintro ⟨c, a⟩ ⟨c', a'⟩ h
  have hk : kcell (c, a.elim (fun _ => none) some) = kcell (c', a'.elim (fun _ => none) some) := by
    have := congrArg (fun t : GSem nD τ sig × ℕ × Fin 6 => t.1) h
    rcases a with i | k <;> rcases a' with i' | k' <;> exact this
  obtain ⟨hc, he⟩ := Prod.mk.inj (kcell_inj hk)
  subst hc
  rcases a with i | k <;> rcases a' with i' | k'
  · have : i = i' := congrArg (fun t : GSem nD τ sig × ℕ × Fin 6 => t.2.2) h
    rw [this]
  · cases he
  · cases he
  · cases he; rfl
def allToks : Finset (GSem nD τ sig × ℕ × Fin 6) := Finset.univ.map ⟨tokOf, tokOf_inj⟩

def u₀ : UU := (initOf (Pipeline.cells cfgs cellOf_inj) (Pipeline.launchToks cfgs cellOf_inj), initOf allCells allToks)

/-- The duty tokens of device `c`'s own cells. -/
def toks (c : Dev nD) : sProp 𝕄 :=
  iprop(bigSep Finset.univ (fun i : Fin 6 => dutyTok ER (barCell c) 0 i)
    ∗ bigSep Finset.univ (fun x => dutyTok ER (sendCell c x) 0 0) ∗ bigSep Finset.univ (fun x => dutyTok ER (recvCell c x) 0 0))
/-- What the launch deals device `c`. -/
def G (c : Dev nD) : sProp 𝕄 :=
  iprop((bigSep Finset.univ fun k : Cl => roundState ER (sch X Y) (kcell (c, k)) 0)
    ∗ (bigSep Finset.univ fun k : Cl => atPos ER (kcell (c, k)) 0 ∅ 0) ∗ (bigSep Finset.univ fun k : Cl => reached ER (kcell (c, k)) 0) ∗ toks c)
/-- What it becomes once the cells' invariants are up. -/
def G' (c : Dev nD) : sProp 𝕄 := iprop(∃ K, recs X Y K ∗ dealt c)

theorem fund_cells : BI.own (ER (initOf allCells allToks)) ⊢ (|==> bigSep Finset.univ (G X Y) : sProp 𝕄) := by
  have hX (Φ : GSem nD τ sig → sProp 𝕄) : bigSep allCells Φ = bigSep Finset.univ fun c : Dev nD => bigSep Finset.univ fun k : Cl => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bool_split]; rfl
  iintro HX
  imod (Rounds.fund ER (sch X Y) allCells allToks) $$ HX with ⟨Hst, Hr, Hat, Htok⟩
  imodintro
  ihave Hst' := (Entails.of_eq (hX fun g => roundState ER (sch X Y) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = iprop(bigSep Finset.univ (fun x => semVal (sendCell c x) 0) ∗ bigSep Finset.univ (fun x => semVal (recvCell c x) 0)) :=
  bool_split fun k => semVal ((c : Thread nD τ), osem k) 0
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (kcell (c, k)) 0 : sProp 𝕄) := by
  rw [ownSems0_eq, unscopedSems0_eq, cell_split]
  iintro ⟨⟨HS, HV⟩, HB⟩
  isplitl [HB]; · iexact HB
  isplitl [HS]; · iexact HS
  iexact HV

/-- One device's cells, their counters and their states, become invariants. -/
theorem cells_up (c : Dev nD) :
    iprop(Pipeline.ownSems0 (Ix := Unit) (Name := ℕ) (U := UU) (Lvl := ℕ) (Val := Elt F) (τ := τ) osem c ∗ unscopedSems0 c ∗ G X Y c)
      ⊢ |={Set.univ}=> iprop((bigSep Finset.univ fun k : Cl => iprop(∃ κ : ℕ, cellInv ER (sch X Y) κ (kcell (c, k))))
          ∗ (bigSep Finset.univ fun k : Cl => atPos ER (kcell (c, k)) 0 ∅ 0) ∗ (bigSep Finset.univ fun k : Cl => reached ER (kcell (c, k)) 0) ∗ toks c) := by
  have hup : iprop((bigSep Finset.univ fun k : Cl => semVal (kcell (c, k)) 0) ∗ bigSep Finset.univ fun k : Cl => roundState ER (sch X Y) (kcell (c, k)) 0)
      ⊢ (|={Set.univ}=> bigSep Finset.univ fun k : Cl => iprop(∃ κ : ℕ, cellInv ER (sch X Y) κ (kcell (c, k))) : sProp 𝕄) := by
    rw [← bigSep_sep']
    exact (bigSep_mono fun k _ => (Rounds.body_intro ER (sch X Y) (kcell (c, k))).trans inv_alloc).trans (bigSep_fupd _ _)
  unfold G
  iintro ⟨Hos, Hus, Hst, Hrest⟩
  ihave Hv := (sems0_eq (F := F) c) $$ [Hos Hus]
  · isplitl [Hos] <;> iassumption
  imod hup $$ [Hv Hst] with Hinv
  · isplitl [Hv] <;> iassumption
  imodintro
  isplitl [Hinv]; · iexact Hinv
  iexact Hrest

/-- What each device keeps: its own places, and the tokens of the duties it pays. -/
theorem deal_out :
    iprop(bigSep Finset.univ (fun c : Dev nD => bigSep Finset.univ fun k : Cl => (atPos ER (kcell (c, k)) 0 ∅ 0 : sProp 𝕄)) ∗ bigSep Finset.univ (fun c : Dev nD => toks c))
      ⊢ (bigSep Finset.univ (fun c : Dev nD => dealt (F := F) c) : sProp 𝕄) := by
  unfold toks dealt
  simp only [cell_split, bigSep_sep']
  rw [at_peers pr pr_pr (fun c i => (dutyTok ER (barCell c) 0 i : sProp 𝕄)),
    at_peers px px_px (fun c x => (dutyTok ER (recvCell c x) 0 0 : sProp 𝕄))]
  iintro ⟨⟨H1, H2, H3⟩, ⟨H4, H5, H6⟩⟩
  isplitl [H4]; · iexact H4
  isplitl [H5]; · iexact H5
  isplitl [H6]; · iexact H6
  isplitl [H1]; · iexact H1
  isplitl [H2]; · iexact H2
  iexact H3

theorem to_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Cl => iprop(∃ κ : ℕ, cellInv ER (sch X Y) κ (kcell (c, k))))
          ∗ (bigSep Finset.univ fun k : Cl => atPos ER (kcell (c, k)) 0 ∅ 0) ∗ (bigSep Finset.univ fun k : Cl => reached ER (kcell (c, k)) 0) ∗ toks c) : sProp 𝕄)
      ⊢ bigSep Finset.univ (G' X Y) := by
  have hg : ∀ (K : Dev nD × Cl → ℕ) (c : Dev nD), iprop(recs X Y K ∗ dealt c) ⊢ G' X Y c := fun K c => by
    unfold G'; iintro H; iexists K; iexact H
  rw [bigSep_sep', bigSep_sep', bigSep_sep', ← bigSep_univ_prod (fun ck : Dev nD × Cl => iprop(∃ κ : ℕ, cellInv ER (sch X Y) κ (kcell ck))),
    ← bigSep_univ_prod (fun ck : Dev nD × Cl => (reached ER (kcell ck) 0 : sProp 𝕄))]
  iintro ⟨HI, Hat, #HR, Htok⟩
  ihave HK := (BI.bigSep_exists_pi Finset.univ (fun (ck : Dev nD × Cl) (κ : ℕ) => (cellInv ER (sch X Y) κ (kcell ck) : sProp 𝕄))) $$ HI
  icases HK with ⟨%K, #HI⟩
  ihave Hd := (deal_out (F := F)) $$ [Hat Htok]
  · isplitl [Hat] <;> iassumption
  iapply (to_all (R := recs X Y K) (hg K))
  isplitr
  · unfold recs; rw [bigSep_sep']
    isplitl; · iexact HI
    iexact HR
  · iexact Hd

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G X Y c) : sProp 𝕄)
    ⊢ |={Set.univ}=> bigSep Finset.univ (G' X Y) :=
  ((bigSep_mono fun c _ => cells_up X Y c).trans (bigSep_fupd _ _)).trans (BI.fupd_mono (regroup X Y))

/-! ## The launch credit -/

/-- What a device owes at the launch. -/
abbrev O₀ (c : Dev nD) : CellTallies nD τ sig Unit := owedB c [0, 1, 2, 3, 4, 5]

theorem bar_eq_iff {a b : Dev nD} : barCell a = barCell b ↔ a = b :=
  ⟨fun h => congrArg (fun g : GSem nD τ sig => g.1.1) h, fun h => h ▸ rfl⟩
theorem recv_eq_iff {a b : Dev nD} {x y : Tr} : recvCell a x = recvCell b y ↔ a = b ∧ x = y := by
  constructor
  · intro h
    have h' : kcell (a, some (true, x)) = kcell (b, some (true, y)) := h
    obtain ⟨h1, h2⟩ := Prod.mk.inj (kcell_inj h')
    cases h2; exact ⟨h1, rfl⟩
  · rintro ⟨rfl, rfl⟩; rfl
theorem recv_ne_bar (a b : Dev nD) (x : Tr) : recvCell a x ≠ barCell b := fun h => by
  have h' : kcell (a, some (true, x)) = kcell (b, none) := h
  cases (Prod.mk.inj (kcell_inj h')).2

theorem sumT_recv (c : Dev nD) (x : Tr) : ∀ ts, ∑ d, owedT d ts (recvCell c x) () = ts.count x * N
  | [] => by unfold owedT; simp
  | y :: ts => by
    have hs : ∀ d, owedT d (y :: ts) (recvCell c x) () = owedT d ts (recvCell c x) () + (if d = px c x then if y = x then N else 0 else 0) := by
      intro d
      show (owedT d ts + tallyAt (recvCell (px d y) y) () N) (recvCell c x) () = _
      rw [Pi.add_apply, Finsupp.add_apply, tallyAt_apply]
      congr 1
      by_cases hy : y = x
      · subst hy
        by_cases hd : d = px c y
        · subst hd; rw [px_px, if_pos ⟨rfl, rfl⟩, if_pos rfl, if_pos rfl]
        · rw [if_neg (fun h => hd (by rw [(recv_eq_iff.1 h.1).1, px_px])), if_neg hd]
      · rw [if_neg (fun h => hy (recv_eq_iff.1 h.1).2.symm), if_neg hy, ite_self]
    rw [Finset.sum_congr rfl fun d _ => hs d, Finset.sum_add_distrib, sumT_recv c x ts, Finset.sum_ite_eq' Finset.univ (px c x), if_pos (Finset.mem_univ _),
      List.count_cons, Nat.add_mul]
    by_cases hy : y = x <;> simp [hy]
theorem sumT_bar (c : Dev nD) : ∀ ts, ∑ d, owedT d ts (barCell c) () = 0
  | [] => by unfold owedT; simp
  | y :: ts => by
    have hs : ∀ d, owedT d (y :: ts) (barCell c) () = owedT d ts (barCell c) () := by
      intro d
      show (owedT d ts + tallyAt (recvCell (px d y) y) () N) (barCell c) () = _
      rw [Pi.add_apply, Finsupp.add_apply, tallyAt_ne_cell (recv_ne_bar _ _ _).symm, Finsupp.zero_apply, Nat.add_zero]
    rw [Finset.sum_congr rfl fun d _ => hs d, sumT_bar c ts]
theorem sumB_recv (c : Dev nD) (x : Tr) : ∀ is, ∑ d, owedB d is (recvCell c x) () = N
  | [] => by
    show ∑ d, owedT d drainAll (recvCell c x) () = N
    rw [sumT_recv, show drainAll.count x = 1 from by revert x; decide +kernel, Nat.one_mul]
  | i :: is => by
    have hs : ∀ d, owedB d (i :: is) (recvCell c x) () = owedB d is (recvCell c x) () := by
      intro d
      show (owedB d is + tallyAt (barCell (pr d i)) () 1) (recvCell c x) () = _
      rw [Pi.add_apply, Finsupp.add_apply, tallyAt_ne_cell (recv_ne_bar _ _ _), Finsupp.zero_apply, Nat.add_zero]
    rw [Finset.sum_congr rfl fun d _ => hs d, sumB_recv c x is]
theorem sumB_bar (c : Dev nD) : ∀ is, ∑ d, owedB d is (barCell c) () = is.length
  | [] => sumT_bar c drainAll
  | i :: is => by
    have hs : ∀ d, owedB d (i :: is) (barCell c) () = owedB d is (barCell c) () + (if d = pr c i then 1 else 0) := by
      intro d
      show (owedB d is + tallyAt (barCell (pr d i)) () 1) (barCell c) () = _
      rw [Pi.add_apply, Finsupp.add_apply, tallyAt_apply]
      congr 1
      by_cases hd : d = pr c i
      · subst hd; rw [pr_pr, if_pos ⟨rfl, rfl⟩, if_pos rfl]
      · rw [if_neg (fun h => hd (by rw [bar_eq_iff.1 h.1, pr_pr])), if_neg hd]
    rw [Finset.sum_congr rfl fun d _ => hs d, Finset.sum_add_distrib, sumB_bar c is, Finset.sum_ite_eq' Finset.univ (pr c i), if_pos (Finset.mem_univ _),
      List.length_cons]

theorem launch_bar (c : Dev nD) :
    tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same]
  exact sumB_bar c _
theorem launch_recv (c : Dev nD) (x : Tr) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same]
  exact sumB_recv c x _

/-- The semaphores peers pay: the barrier's and the arrivals'. -/
def paid : Option Tr → SemLoc sig
  | none => .reg barS
  | some x => .dma (recvSem x)
theorem paid_inj : Function.Injective paid := by
  intro a b h
  have h' : csem (a.map fun x => (true, x)) = csem (b.map fun x => (true, x)) := by cases a <;> cases b <;> exact h
  have := csem_inj h'
  cases a <;> cases b <;> simp_all

theorem creds (c : Dev nD) : (Pipeline.launchCred O₀ c : sProp 𝕄) ⊢ owedTo c := by
  unfold Pipeline.launchCred owedTo
  refine (bigSep_subset (Finset.subset_univ (Finset.univ.map ⟨paid, paid_inj⟩))).trans ?_
  have e : iprop(cred (tallyOn (barCell c) (launchCredit (Pipeline.owing O₀) 0 (barCell c)))
      ∗ bigSep Finset.univ (fun x => cred (tallyOn (recvCell c x) (launchCredit (Pipeline.owing O₀) 0 (recvCell c x)))))
    = (iprop(cred (tallyAt (barCell c) () 6) ∗ bigSep Finset.univ (fun x => cred (tallyAt (recvCell c x) () N))) : sProp 𝕄) := by
    rw [launch_bar]; simp only [launch_recv]
  rw [bigSep_map, option_split]
  exact Entails.of_eq e

end Cert.KernelIdeal.Gen

end
-- ==== Proof.Launch.lean ====
/- The launch: the region's proof data, its body's obligation, and the run of @main from any memory. -/
module

public import proofs.«01_k».proof.Proof.Deal
public import Idealize.ShloMosaic.Lib.Pipeline.CollectiveSegs

@[expose] public section

set_option maxRecDepth 8000

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

/-- The operands of the devices, as launched. -/
def XX (c : Dev nD) : Vec F S512x256 .f32 := m ((c : Thread nD τ).loc main_arg0)
def YY (c : Dev nD) : Vec F S256x512 .f32 := m ((c : Thread nD τ).loc main_arg1)

/-- What device `c`'s body starts from, its scratch buffers aside. -/
def start (c : Dev nD) : sProp 𝕄 := iprop(G' (XX m) (YY m) c ∗ owedTo c ∗ levAts L lv)
/-- The three scratch buffers, at some contents. -/
def scratch (c : Dev nD) : sProp 𝕄 :=
  iprop((∃ f, accP c Finset.univ f) ∗ (∃ f, rAP c Finset.univ f) ∗ (∃ f, rBP c Finset.univ f))
def Φ₀ (c : Dev nD) : sProp 𝕄 := iprop(start m c ∗ scratch c)
/-- After the body: the scratch buffers, and every semaphore of the kernel's at zero. -/
def Φ₁ (c : Dev nD) : sProp 𝕄 :=
  iprop(scratch c ∗ bigSep Finset.univ (fun x => semVal (sendCell c x) 0) ∗ bigSep Finset.univ (fun x => semVal (recvCell c x) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => XX m c
    | ⟨1, _⟩ => YY m c
    | ⟨2, _⟩ => OO (XX m) (YY m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem windows (Φ : Fin cfg0.W → sProp 𝕄) : bigSep Finset.univ Φ = iprop(Φ (0 : Fin 3) ∗ Φ (1 : Fin 3) ∗ Φ (2 : Fin 3)) := bigSep_W0 Φ

/-- Owning a whole buffer at given contents. -/
theorem owns_buf (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ ((c : Thread nD τ).loc b ↦{fullShare} f)) := by
  unfold owns; simp only [Memref.view_whole, View.read_whole, View.set_whole]

/-- A staging buffer at given contents. -/
abbrev at_ (c : Dev nD) (b : Ref sig .tc) (v : b.ty.Contents (Elt F)) : sProp 𝕄 :=
  iprop(∃ f : Buf (Elt F) ((c : Thread nD τ).loc b), ⌜f = v⌝ ∗ ((c : Thread nD τ).loc b ↦{fullShare} f))

/-- A window's one block is its whole array. -/
theorem read_blk_x (f : (main_arg0 : Ref sig .tc).ty.Contents (Elt F)) : (win0_0.blk t0_0).view.read (Elt F) f = f :=
  Memref.read_access_unit_zero (Elt F) main_arg0 (funext fun a => Nat.zero_mul (main_arg0.ty.shape.size a)) (fun a => by fin_cases a <;> decide) f
theorem read_blk_y (f : (main_arg1 : Ref sig .tc).ty.Contents (Elt F)) : (win0_1.blk t0_0).view.read (Elt F) f = f :=
  Memref.read_access_unit_zero (Elt F) main_arg1 (funext fun a => Nat.zero_mul (main_arg1.ty.shape.size a)) (fun a => by fin_cases a <;> decide) f
theorem read_blk_o (f : (main_v1 : Ref sig .tc).ty.Contents (Elt F)) : (win0_2.blk t0_0).view.read (Elt F) f = f :=
  Memref.read_access_unit_zero (Elt F) main_v1 (funext fun a => Nat.zero_mul (main_v1.ty.shape.size a)) (fun a => by fin_cases a <;> decide) f

theorem before_x (c : Dev nD) (d) : (dats m ρ 0 c).before (0 : Fin 3) t0_0 d = XX m c := by
  unfold Dat.before; rw [if_pos (fetch0_0 t0_0)]; exact read_blk_x (XX m c)
theorem before_y (c : Dev nD) (d) : (dats m ρ 0 c).before (1 : Fin 3) t0_0 d = YY m c := by
  unfold Dat.before; rw [if_pos (fetch0_1 t0_0)]; exact read_blk_y (YY m c)

def bodyPre₀ (c : Dev nD) : sProp 𝕄 :=
  iprop(Φ₀ m c ∗ (dats m ρ 0 c).owesAt () t0_0.castSucc
    ∗ (∃ d, at_ c cc0_stg0_0 ((dats m ρ 0 c).before (0 : Fin 3) t0_0 d))
    ∗ (∃ d, at_ c cc0_stg1_0 ((dats m ρ 0 c).before (1 : Fin 3) t0_0 d))
    ∗ (∃ d, at_ c cc0_stg2_0 ((dats m ρ 0 c).before (2 : Fin 3) t0_0 d)))
def bodyPost₀ (c : Dev nD) : sProp 𝕄 :=
  iprop(Φ₁ c ∗ (dats m ρ 0 c).owesAt () t0_0.succ ∗ at_ c cc0_stg0_0 (XX m c) ∗ at_ c cc0_stg1_0 (YY m c) ∗ at_ c cc0_stg2_0 (OO (XX m) (YY m)))

theorem post_of_run (c : Dev nD) : iprop(runPost (XX m) (YY m) c ∗ semVal (barCell c) 0) ⊢ bodyPost₀ m ρ c := by
  unfold runPost bodyPost₀ Φ₁ scratch insP owe at_ Dat.owesAt Pipeline.owesWithin
  rw [show (dats m ρ 0 c).owed t0_0.succ = 0 from rfl]
  iintro ⟨⟨⟨%W, HO⟩, ⟨HX, HY⟩, HA, Hout, HrA, HrB, HS, HR⟩, HB⟩
  isplitl [HA HrA HrB HS HR HB]
  · isplitl [HA HrA HrB]
    · isplitl [HA]; · iexact HA
      isplitl [HrA]; · iexact HrA
      iexact HrB
    isplitl [HS]; · iexact HS
    isplitl [HR]; · iexact HR
    iexact HB
  isplitl [HO]
  · iexists W
    isplitr; · ipureintro; exact fun _ _ => Or.inl trivial
    iexact HO
  isplitl [HX]
  · iexists _; isplitr; · (ipureintro; rfl)
    iexact HX
  isplitl [HY]
  · iexists _; isplitr; · (ipureintro; rfl)
    iexact HY
  iexists _; isplitr; · (ipureintro; rfl)
  unfold outP; iexact Hout

theorem body_run (c : Dev nD) : bodyPre₀ m ρ c ⊢ wpK c prog (fun _ => bodyPost₀ m ρ c) := by
  unfold bodyPre₀ Φ₀ start G' scratch at_ Dat.owesAt Pipeline.owesWithin
  rw [show (dats m ρ 0 c).owed t0_0.castSucc = O₀ c from rfl]
  iintro ⟨⟨⟨⟨%K, HR, HD⟩, Hc, Hl⟩, HA, HrA, HrB⟩, ⟨%W, %hW, HO⟩, ⟨%d0, %f0, %h0, HX⟩, ⟨%d1, %f1, %h1, HY⟩, ⟨%d2, %f2, %h2, Hout⟩⟩
  have e0 : f0 = XX m c := h0.trans (before_x m ρ c d0)
  have e1 : f1 = YY m c := h1.trans (before_y m ρ c d1)
  subst e0 e1
  iapply (whole_spec (XX m) (YY m) K c W (fun _ => bodyPost₀ m ρ c)) $$ [HR HD Hc Hl HA HrA HrB HO HX HY Hout]
  · isplitl [HR]; · iexact HR
    isplitl [Hl]; · iexact Hl
    isplitl [HD]; · iexact HD
    isplitl [Hc]; · iexact Hc
    isplitl [HO]; · iexact HO
    isplitl [HX HY]
    · unfold insP
      isplitl [HX]; · iexact HX
      iexact HY
    isplitl [HA]; · iexact HA
    isplitl [HrA]; · iexact HrA
    isplitl [HrB]; · iexact HrB
    iexists f2; unfold outP; iexact Hout
  iintro H
  iapply (post_of_run m ρ c)
  iexact H

theorem body_obligation (c : Dev nD) : BodyObligation (dats (F := F) m ρ 0 c) (defs₀ (F := F)) 𝒱₀ () Set.univ := fun t => by
  rw [fin_N0 t]
  rw [windows, windows]
  simp only [owns_buf]
  show bodyPre₀ m ρ c ⊢ wpK c (cc0_body aM (Memref.isWhole_whole _) bM (Memref.isWhole_whole _) outM (Memref.isWhole_whole _) accM (Memref.isWhole_whole _)
    rAM (Memref.isWhole_whole _) rBM (Memref.isWhole_whole _) cc0_scratch3 cc0_scratch4 cc0_scratch5 cc0_scratch6 cc0_scratch7 cc0_scratch8 cc0_scratch9 cc0_scratch10)
    (fun _ => bodyPost₀ m ρ c)
  exact BIBase.Entails.trans (body_run m ρ c) (Entails.of_eq (congrArg (fun p => wpK c p (fun _ => bodyPost₀ m ρ c)) body_eq.symm))

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (XX m) (YY m) c)
      ⊢ |={Set.univ}=> iprop(start m c ∗ emp) := by
  iintro ⟨-, Hl, Hcr, -, HG⟩
  ihave Hc := (creds (F := F) c) $$ Hcr
  imodintro
  unfold start
  isplitl
  · isplitl [HG]; · iexact HG
    isplitl [Hc]; · iexact Hc
    iexact Hl
  · iempintro

theorem phi_first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HS, HR, HB⟩
  isplitl [HB]; · iexact HB
  isplitl [HS HR]
  · isplitl [HS]; · iexact HS
    iexact HR
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by revert w s; decide +kernel) [0, 1, 2, 3, 4, 5]
    · show _ ⊢ MayWait (c : Thread nD τ) _ () 0
      rw [MayWait_zero]; iintro -; iempintro

/-! ## The run -/

/-- Window `w`'s array of device `c` after the run. -/
def finalA (c : Dev nD) (w : Fin cfg0.W) : Buf (Elt F) ((cfg0.win w).arr.view.loc (c : Thread nD τ)) := (dats m ρ 0 c).arrAt w cfg0.N

/-- From any memory with zero counters every fair execution of @main ends, each array as computed and every semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (XX m) (YY m)) (G' := G' (XX m) (YY m)) (u₀ := u₀)
    (hu₀ := by
      unfold u₀
      iintro Hu
      ihave H := (ownU_pair _ _) $$ Hu
      icases H with ⟨HP, HX⟩
      imod (fund_cells (XX m) (YY m)) $$ HX with HG
      imodintro
      isplitl [HP] <;> iassumption)
    (hglob := glob (XX m) (YY m))
    (hA := fun _ _ => rfl) (hpf := fun _ k => k.elim0)
    (X := start m) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) := (dats (F := F) m ρ 0 c).arrAt_in (0 : Fin 3) rfl _
theorem final_y (c : Dev nD) : finalA m ρ c (1 : Fin 3) = m ((c : Thread nD τ).loc main_arg1) := (dats (F := F) m ρ 0 c).arrAt_in (1 : Fin 3) rfl _
/-- The result array of every device holds the sums. -/
theorem final_o (c : Dev nD) : finalA m ρ c (2 : Fin 3) = OO (XX m) (YY m) := by
  unfold finalA
  rw [show cfg0.N = t0_0.val + 1 from rfl, (dats (F := F) m ρ 0 c).arrAt_succ (2 : Fin 3) t0_0, if_pos (flush0_2 t0_0)]
  refine (read_blk_o _).symm.trans ?_
  exact View.read_write_univ _ _

/-- The run's end, array by array. -/
theorem run_end : θ_run defs (onTc (τ := τ) (main (F := F))) (s₀ m ρ) (fun r => (∀ c : Dev nD,
      r.2.mem ((c : Thread nD τ).loc main_v1) = OO (XX m) (YY m)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_o m ρ c), (h.1 c (0 : Fin 3)).trans (final_x m ρ c),
    (h.1 c (1 : Fin 3)).trans (final_y m ρ c)⟩, h.2⟩) (run_main m ρ)

end Cert.KernelIdeal.Gen

end
-- ==== Proof.Value.lean ====
/- The value over the extended reals: the sums the devices finish are the product of the whole operands. -/
module

public import proofs.«01_k».proof.Proof.Content
public import proofs.«01_k».proof.Proof.Gen.ReferenceIdeal.Run
public import Idealize.ShloMosaic.Lib.Layout
public import Idealize.ShloMosaic.Lib.MatmulPlain
public import Idealize.ShloMosaic.Lib.StackMember

@[expose] public section

noncomputable section

namespace Cert.KernelIdeal.Gen

open Idealize.ShloMosaic Idealize.ShloMosaic.TcCoe Idealize.SL.Sem Idealize.ShloMosaic.ValueIdx

section Sum
variable (X : Dev nD → Vec Ideal S512x256 .f32) (Y : Dev nD → Vec Ideal S256x512 .f32)

/-- A device's product, entry by entry. -/
theorem product_at (c : Dev nD) (r : Fin 512) (l : Fin 512) :
    PP X Y c (ix2 r l) = ∑ k : Fin 256, X c (ix2 r k) * Y c (ix2 k l) := by
  unfold PP k0_pay1
  simp only [shapeCast_self, matmul]
  rw [show dot_S128x256_S256x512_S128x512_1_0_0_1_n_n = DotDims.plain 128 256 512 from rfl]
  have h := Ideal.matmul_plain_apply (M := 128) (K := 256) (N := 512) (φ₁ := .f32) (φ₂ := .f32) none
    (rowsOf (F := Ideal) (X c) ⟨r.val / 128, by omega⟩) (Y c) (constant S128x512 .f32 0x00000000#32)
    (⟨r.val % 128, Nat.mod_lt _ (by decide)⟩ : Fin 128) l
  refine Eq.trans h ?_
  rw [constant_apply, Ideal.ofBits_zero_f32, zero_add]
  refine Finset.sum_congr rfl fun k _ => congrArg (· * Y c (ix2 k l)) ?_
  show X c (ix2 _ _) = X c (ix2 r k)
  refine congrArg (fun q : Fin 512 => X c (ix2 q k)) (Fin.ext ?_)
  show 128 * (r.val / 128) + r.val % 128 = r.val
  omega

/-- The devices whose products the two-level sum of `c` adds, in its order. -/
def order (c : Dev nD) : List (Dev nD) :=
  [c, pr c 3, pr c 4, pr c 5].flatMap fun d => [d, pr d 0, pr d 1, pr d 2]

theorem order_perm (c : Dev nD) : (order c).Perm (List.finRange 16) := by revert c; decide +kernel

theorem four_sum (a b c d : EReal) : add4 (F := Ideal) a b c d = a + b + c + d := rfl

/-- The two-level sum of any device adds every device's product once. -/
theorem two_levels (c : Dev nD) (i : S512x512.Idx) : S2 X Y c i = ∑ d : Fin 16, PP X Y d i := by
  have h : S2 X Y c i = ((order c).map fun d => PP X Y d i).sum := by
    unfold S2 S1 order
    erw [four_sum, four_sum, four_sum, four_sum, four_sum]
    simp only [List.flatMap_cons, List.flatMap_nil, List.map_append, List.map_cons, List.map_nil, List.sum_append, List.sum_cons, List.sum_nil,
      add_zero, add_assoc]
  rw [h, ((order_perm c).map _).sum_eq, ← List.ofFn_eq_map, List.sum_ofFn]

end Sum

/-! ## The whole operands, cut among the devices -/

variable (A : Vec Ideal ⟨2, ![512, 4096]⟩ .f32) (B : Vec Ideal ⟨2, ![4096, 512]⟩ .f32)

/-- Position `k` of device `d`'s share of the contracted axis. -/
def spot (d : Fin 16) (k : Fin 256) : Fin 4096 := ⟨d.val * 256 + k.val, by omega⟩

theorem share_left (d : Fin 16) (r : Fin 512) (k : Fin 256) :
    Layout.block ⟨2, ![512, 256]⟩ ⟨2, ![512, 4096]⟩ 1 16 d A (by decide) (ix2 r k) = A (ix2 r (spot d k)) := by
  rw [Layout.block_apply]
  refine congrArg A (funext fun a => Fin.ext ?_)
  match a with
  | ⟨0, _⟩ => rfl
  | ⟨1, _⟩ => rfl
theorem share_right (d : Fin 16) (k : Fin 256) (l : Fin 512) :
    Layout.block ⟨2, ![256, 512]⟩ ⟨2, ![4096, 512]⟩ 0 16 d B (by decide) (ix2 k l) = B (ix2 (spot d k) l) := by
  rw [Layout.block_apply]
  refine congrArg B (funext fun a => Fin.ext ?_)
  match a with
  | ⟨0, _⟩ => rfl
  | ⟨1, _⟩ => rfl

/-- A sum over the contracted axis, a device's share at a time. -/
theorem sum_shares (f : Fin 4096 → EReal) : ∑ k, f k = ∑ d : Fin 16, ∑ k : Fin 256, f (spot d k) := by
  rw [← Fintype.sum_prod_type', ← Equiv.sum_comp (finProdFinEquiv (m := 16) (n := 256))]
  refine Finset.sum_congr rfl fun p _ => congrArg f (Fin.ext ?_)
  show p.2.val + 256 * p.1.val = p.1.val * 256 + p.2.val
  omega

/-- With the operands cut among the devices, what each of them ends with is the product of the whole operands. -/
theorem result_eq (X : Dev nD → Vec Ideal S512x256 .f32) (Y : Dev nD → Vec Ideal S256x512 .f32)
    (hX : ∀ c, X c = Layout.block ⟨2, ![512, 256]⟩ ⟨2, ![512, 4096]⟩ 1 16 c A) (hY : ∀ c, Y c = Layout.block ⟨2, ![256, 512]⟩ ⟨2, ![4096, 512]⟩ 0 16 c B) :
    OO X Y = Host.dotGeneral (F := Ideal) (φ₁ := .f32) (φ₂ := .f32) Cert.ReferenceIdeal.dot_S512x4096_S4096x512_S512x512_1_0_0_1_n_n none A B := by
  funext i
  obtain ⟨r, l, rfl⟩ : ∃ (r : Fin 512) (l : Fin 512), i = ix2 r l := ⟨i 0, i 1, eq_ix2 i⟩
  have hR := StackMember.dotGeneral_plain_apply (m := 512) (n := 512) (k := 4096) (φ₁ := .f32) (φ₂ := .f32) none A B r l
  refine Eq.trans ?_ hR.symm
  unfold OO
  rw [two_levels, sum_shares]
  refine Finset.sum_congr rfl fun d _ => ?_
  rw [product_at]
  refine Finset.sum_congr rfl fun k _ => ?_
  rw [hX d, hY d, share_left, share_right]

end Cert.KernelIdeal.Gen

end
-- ==== Proof.lean ====
/- The certificate: the kernel runs and comes to rest, as printed and idealized; the reference runs; the idealization is
   the kernel's own text; and over the extended reals every device ends with the product of the whole operands. The run of
   the kernel is proved once, for any float values (Proof/Launch.lean), and the value in Proof/Value.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

section Same

variable {F : FTy → Type} [FloatOps F]

attribute [local instance] Cert.Kernel.Gen.facts Cert.KernelIdeal.Gen.facts

/-- The two printed programs have the same kernel body, so the same table of bodies. -/
theorem bodies_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- The same holds once each launch's region and pipeline are added. -/
theorem defs_same : Cert.Kernel.defs (F := F) = Cert.KernelIdeal.defs (F := F) :=
  congrArg (Pipeline.defs Cert.KernelIdeal.pcfgs) bodies_same

end Same

/-- The printed kernel runs, keeps its arguments and leaves every semaphore at zero. -/
theorem frame_kernel : Cert.quiescent_Kernel := by
  intro m ρ _
  rw [defs_same]
  exact (θ_run Cert.KernelIdeal.defs _ _).mono (fun _ h => ⟨fun c => (h.1 c).2, h.2⟩) (Cert.KernelIdeal.Gen.run_end (F := Bits) m ρ)

/-- So does its idealization. -/
theorem frame_ideal : Cert.quiescent_KernelIdeal := fun m ρ _ =>
  (θ_run Cert.KernelIdeal.defs _ _).mono (fun _ h => ⟨fun c => (h.1 c).2, h.2⟩) (Cert.KernelIdeal.Gen.run_end (F := Ideal) m ρ)

/-- The reference runs and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the idealized kernel ends with the reference's product. -/
theorem value : Cert.algebraic_KernelIdeal_ReferenceIdeal := by
  intro m ρ m' ρ' _ hm
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩) (Cert.KernelIdeal.Gen.run_end (F := Ideal) m ρ)
  exact Cert.KernelIdeal.Gen.result_eq _ _ _ _ (fun d => (hm d).1) (fun d => (hm d).2)

theorem claim : Cert.Claim :=
  ⟨Cert.Kernel.Gen.facts, Cert.KernelIdeal.Gen.facts, Cert.ReferenceIdeal.Gen.facts, frame_kernel, frame_ideal, frame_reference, trivial, value⟩

end Cert.Proof

end
